-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_c_0)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_c_1)) (v4 : (c : Dev Cert.KernelIdeal.nD) → Buf (Elt Ideal) ((c.tc : Thread Cert.KernelIdeal.nD Cert.KernelIdeal.τ).loc Cert.KernelIdeal.main_c_2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_c_0) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_c_1) = v3 c
          ∧ r.2.mem ((c.tc : Thread Cert.KernelIdeal.nD Cert.KernelIdeal.τ).loc Cert.KernelIdeal.main_c_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_v55) = v3 c
          ∧ r.2.mem ((c.tc : Thread Cert.ReferenceIdeal.nD Cert.ReferenceIdeal.τ).loc Cert.ReferenceIdeal.main_c_12) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x2048x128 : Shape := ⟨3, ![128, 2048, 128]⟩
abbrev S136064 : Shape := ⟨1, ![136064]⟩
abbrev S128 : Shape := ⟨1, ![128]⟩
abbrev S262144x128 : Shape := ⟨2, ![262144, 128]⟩
abbrev S136064x128 : Shape := ⟨2, ![136064, 128]⟩
abbrev S128x128 : Shape := ⟨2, ![128, 128]⟩
abbrev S_ : Shape := ⟨0, ![]⟩
abbrev S128x1063x128 : Shape := ⟨3, ![128, 1063, 128]⟩

abbrev nBuf : Table → Nat
  | .hbm => 8
  | .local .scVector .vmem => 2
  | _ => 0

abbrev bufTy : (tb : Table) → Fin (nBuf tb) → BufTy
  | .hbm, ⟨0, _⟩ => ⟨S128x2048x128, .f32⟩
  | .hbm, ⟨1, _⟩ => ⟨S136064, .i32⟩
  | .hbm, ⟨2, _⟩ => ⟨S128, .i32⟩
  | .hbm, ⟨3, _⟩ => ⟨S128, .i32⟩
  | .hbm, ⟨4, _⟩ => ⟨S262144x128, .f32⟩
  | .hbm, ⟨5, _⟩ => ⟨S136064x128, .f32⟩
  | .hbm, ⟨6, _⟩ => ⟨S128x1063x128, .f32⟩
  | .hbm, ⟨7, _⟩ => ⟨S_, .i32⟩
  | .local .scVector .vmem, ⟨0, _⟩ => ⟨S128, .i32⟩
  | .local .scVector .vmem, ⟨1, _⟩ => ⟨S128x128, .f32⟩
  | _, _ => ⟨S128x2048x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_2 : Ref sig .tc := ⟨.hbm, 7, rfl⟩
abbrev main_v0_scv : Ref sig .scVector := ⟨.hbm, 4, rfl⟩
abbrev main_c_scv : Ref sig .scVector := ⟨.hbm, 1, rfl⟩
abbrev main_v1_scv : Ref sig .scVector := ⟨.hbm, 5, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop (i : grid0.Coords) : Scf.Loop 32 :=
  let c0_i32_7 : BitVec 32 := 0#32
  let c1063_i32 : BitVec 32 := 1063#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c1063_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_9 : BitVec 32 := 1#32
  ⟨c0_i32_7, v26, c1_i32_9⟩
def k0_mult1 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7 : BitVec 32 := 0#32
  let c1_i32_9 : BitVec 32 := 1#32
  let arg8 : BitVec 32 := Scf.iv c0_i32_7 c1_i32_9 k0_t1
  let c32_i32_11 : BitVec 32 := 32#32
  let v27 : BitVec 32 := Scalar.muli arg8 c32_i32_11
  let v28 : BitVec 32 := Scalar.addi v1 v27
  let c128_i32 : BitVec 32 := 128#32
  let v29 : BitVec 32 := Scalar.muli v28 c128_i32
  v29
def k0_off1 (i : grid0.Coords) (k0_t1 : Fin (k0_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7 : BitVec 32 := 0#32
  let c1_i32_9 : BitVec 32 := 1#32
  let arg8 : BitVec 32 := Scf.iv c0_i32_7 c1_i32_9 k0_t1
  let c32_i32_11 : BitVec 32 := 32#32
  let v27 : BitVec 32 := Scalar.muli arg8 c32_i32_11
  let v28 : BitVec 32 := Scalar.addi v1 v27
  let c128_i32 : BitVec 32 := 128#32
  let v29 : BitVec 32 := Scalar.muli v28 c128_i32
  let v30 : BitVec 32 := v29
  ![v30.toNat]
def k0_off2 (i : grid0.Coords) (k0_t1 : Fin (k0_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7 : BitVec 32 := 0#32
  let c1_i32_9 : BitVec 32 := 1#32
  let arg8 : BitVec 32 := Scf.iv c0_i32_7 c1_i32_9 k0_t1
  let c32_i32_11 : BitVec 32 := 32#32
  let v27 : BitVec 32 := Scalar.muli arg8 c32_i32_11
  let v28 : BitVec 32 := Scalar.addi v1 v27
  let c128_i32 : BitVec 32 := 128#32
  let v29 : BitVec 32 := Scalar.muli v28 c128_i32
  let v30 : BitVec 32 := v29
  let c0_i32_16_r1 : BitVec 32 := 0#32
  ![v30.toNat, 0]
@[reducible] def k0_t2_loop (i : grid0.Coords) : Scf.Loop 32 :=
  let c0_i32_7 : BitVec 32 := 0#32
  let c1063_i32 : BitVec 32 := 1063#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c1063_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let v23 : BitVec 32 := Scalar.addi c0_i32_7 v22
  let c1_i32_10 : BitVec 32 := 1#32
  ⟨v26, v23, c1_i32_10⟩
def k0_mult2 (i : grid0.Coords) (k0_t2 : Fin (k0_t2_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7 : BitVec 32 := 0#32
  let c1063_i32 : BitVec 32 := 1063#32
  let v2 : BitVec 32 := Scalar.subi c1063_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg8 : BitVec 32 := Scf.iv v26 c1_i32_10 k0_t2
  let c32_i32_11 : BitVec 32 := 32#32
  let v27 : BitVec 32 := Scalar.muli arg8 c32_i32_11
  let v28 : BitVec 32 := Scalar.addi v1 v27
  let c128_i32 : BitVec 32 := 128#32
  let v29 : BitVec 32 := Scalar.muli v28 c128_i32
  v29
def k0_off3 (i : grid0.Coords) (k0_t2 : Fin (k0_t2_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7 : BitVec 32 := 0#32
  let c1063_i32 : BitVec 32 := 1063#32
  let v2 : BitVec 32 := Scalar.subi c1063_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg8 : BitVec 32 := Scf.iv v26 c1_i32_10 k0_t2
  let c32_i32_11 : BitVec 32 := 32#32
  let v27 : BitVec 32 := Scalar.muli arg8 c32_i32_11
  let v28 : BitVec 32 := Scalar.addi v1 v27
  let c128_i32 : BitVec 32 := 128#32
  let v29 : BitVec 32 := Scalar.muli v28 c128_i32
  let v30 : BitVec 32 := v29
  ![v30.toNat]
def k0_off4 (i : grid0.Coords) (k0_t2 : Fin (k0_t2_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7 : BitVec 32 := 0#32
  let c1063_i32 : BitVec 32 := 1063#32
  let v2 : BitVec 32 := Scalar.subi c1063_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg8 : BitVec 32 := Scf.iv v26 c1_i32_10 k0_t2
  let c32_i32_11 : BitVec 32 := 32#32
  let v27 : BitVec 32 := Scalar.muli arg8 c32_i32_11
  let v28 : BitVec 32 := Scalar.addi v1 v27
  let c128_i32 : BitVec 32 := 128#32
  let v29 : BitVec 32 := Scalar.muli v28 c128_i32
  let v30 : BitVec 32 := v29
  let c0_i32_16_r3 : BitVec 32 := 0#32
  ![v30.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x2048x128 : Shape := ⟨3, ![128, 2048, 128]⟩
abbrev S128 : Shape := ⟨1, ![128]⟩
abbrev S_ : Shape := ⟨0, ![]⟩
abbrev S128x1 : Shape := ⟨2, ![128, 1]⟩
abbrev S1158 : Shape := ⟨1, ![1158]⟩
abbrev S1x1158 : Shape := ⟨2, ![1, 1158]⟩
abbrev S128x1158 : Shape := ⟨2, ![128, 1158]⟩
abbrev S128x1158x1 : Shape := ⟨3, ![128, 1158, 1]⟩
abbrev S128x1158x2 : Shape := ⟨3, ![128, 1158, 2]⟩
abbrev S128x1158x128 : Shape := ⟨3, ![128, 1158, 128]⟩
abbrev S1135 : Shape := ⟨1, ![1135]⟩
abbrev S1x1135 : Shape := ⟨2, ![1, 1135]⟩
abbrev S128x1135 : Shape := ⟨2, ![128, 1135]⟩
abbrev S128x1135x1 : Shape := ⟨3, ![128, 1135, 1]⟩
abbrev S128x1135x2 : Shape := ⟨3, ![128, 1135, 2]⟩
abbrev S128x1135x128 : Shape := ⟨3, ![128, 1135, 128]⟩
abbrev S128x1063x128 : Shape := ⟨3, ![128, 1063, 128]⟩

abbrev nBuf : Space → Nat
  | .hbm => 71
  | .vmem => 0
  | .smem => 0
  | _ => 0

abbrev bufTy : (tb : Table) → Fin (tcTables nBuf tb) → BufTy
  | .hbm, ⟨0, _⟩ => ⟨S128x2048x128, .f32⟩
  | .hbm, ⟨1, _⟩ => ⟨S128, .i32⟩
  | .hbm, ⟨2, _⟩ => ⟨S_, .i32⟩
  | .hbm, ⟨3, _⟩ => ⟨S128, .i32⟩
  | .hbm, ⟨4, _⟩ => ⟨S128, .i32⟩
  | .hbm, ⟨5, _⟩ => ⟨S128x1, .i32⟩
  | .hbm, ⟨6, _⟩ => ⟨S1158, .i32⟩
  | .hbm, ⟨7, _⟩ => ⟨S1x1158, .i32⟩
  | .hbm, ⟨8, _⟩ => ⟨S128x1158, .i32⟩
  | .hbm, ⟨9, _⟩ => ⟨S128x1158, .i32⟩
  | .hbm, ⟨10, _⟩ => ⟨S128x1158, .i32⟩
  | .hbm, ⟨11, _⟩ => ⟨S128, .i32⟩
  | .hbm, ⟨12, _⟩ => ⟨S128x1, .i32⟩
  | .hbm, ⟨13, _⟩ => ⟨S_, .i32⟩
  | .hbm, ⟨14, _⟩ => ⟨S128x1, .i32⟩
  | .hbm, ⟨15, _⟩ => ⟨S128x1, .i1⟩
  | .hbm, ⟨16, _⟩ => ⟨S_, .i32⟩
  | .hbm, ⟨17, _⟩ => ⟨S128x1, .i32⟩
  | .hbm, ⟨18, _⟩ => ⟨S128x1, .i32⟩
  | .hbm, ⟨19, _⟩ => ⟨S128x1, .i32⟩
  | .hbm, ⟨20, _⟩ => ⟨S_, .i32⟩
  | .hbm, ⟨21, _⟩ => ⟨S128x1158, .i32⟩
  | .hbm, ⟨22, _⟩ => ⟨S128x1158, .i1⟩
  | .hbm, ⟨23, _⟩ => ⟨S_, .i32⟩
  | .hbm, ⟨24, _⟩ => ⟨S128x1158, .i32⟩
  | .hbm, ⟨25, _⟩ => ⟨S128x1158, .i32⟩
  | .hbm, ⟨26, _⟩ => ⟨S128x1158, .i32⟩
  | .hbm, ⟨27, _⟩ => ⟨S128x1158, .i32⟩
  | .hbm, ⟨28, _⟩ => ⟨S128x1158x1, .i32⟩
  | .hbm, ⟨29, _⟩ => ⟨S128x1158x1, .i32⟩
  | .hbm, ⟨30, _⟩ => ⟨S128x1158x2, .i32⟩
  | .hbm, ⟨31, _⟩ => ⟨S128x1158x128, .f32⟩
  | .hbm, ⟨32, _⟩ => ⟨S_, .i32⟩
  | .hbm, ⟨33, _⟩ => ⟨S128, .i32⟩
  | .hbm, ⟨34, _⟩ => ⟨S128, .i32⟩
  | .hbm, ⟨35, _⟩ => ⟨S128x1, .i32⟩
  | .hbm, ⟨36, _⟩ => ⟨S1135, .i32⟩
  | .hbm, ⟨37, _⟩ => ⟨S1x1135, .i32⟩
  | .hbm, ⟨38, _⟩ => ⟨S128x1135, .i32⟩
  | .hbm, ⟨39, _⟩ => ⟨S128x1135, .i32⟩
  | .hbm, ⟨40, _⟩ => ⟨S128x1135, .i32⟩
  | .hbm, ⟨41, _⟩ => ⟨S128, .i32⟩
  | .hbm, ⟨42, _⟩ => ⟨S128x1, .i32⟩
  | .hbm, ⟨43, _⟩ => ⟨S_, .i32⟩
  | .hbm, ⟨44, _⟩ => ⟨S128x1, .i32⟩
  | .hbm, ⟨45, _⟩ => ⟨S128x1, .i1⟩
  | .hbm, ⟨46, _⟩ => ⟨S_, .i32⟩
  | .hbm, ⟨47, _⟩ => ⟨S128x1, .i32⟩
  | .hbm, ⟨48, _⟩ => ⟨S128x1, .i32⟩
  | .hbm, ⟨49, _⟩ => ⟨S128x1, .i32⟩
  | .hbm, ⟨50, _⟩ => ⟨S_, .i32⟩
  | .hbm, ⟨51, _⟩ => ⟨S128x1135, .i32⟩
  | .hbm, ⟨52, _⟩ => ⟨S128x1135, .i1⟩
  | .hbm, ⟨53, _⟩ => ⟨S_, .i32⟩
  | .hbm, ⟨54, _⟩ => ⟨S128x1135, .i32⟩
  | .hbm, ⟨55, _⟩ => ⟨S128x1135, .i32⟩
  | .hbm, ⟨56, _⟩ => ⟨S128x1135, .i32⟩
  | .hbm, ⟨57, _⟩ => ⟨S128x1135, .i32⟩
  | .hbm, ⟨58, _⟩ => ⟨S128x1135x1, .i32⟩
  | .hbm, ⟨59, _⟩ => ⟨S128x1135x1, .i32⟩
  | .hbm, ⟨60, _⟩ => ⟨S128x1135x2, .i32⟩
  | .hbm, ⟨61, _⟩ => ⟨S128x1135x128, .f32⟩
  | .hbm, ⟨62, _⟩ => ⟨S128x1063x128, .f32⟩
  | .hbm, ⟨63, _⟩ => ⟨S128x1063x128, .f32⟩
  | .hbm, ⟨64, _⟩ => ⟨S_, .i32⟩
  | .hbm, ⟨65, _⟩ => ⟨S128, .i32⟩
  | .hbm, ⟨66, _⟩ => ⟨S128, .i32⟩
  | .hbm, ⟨67, _⟩ => ⟨S_, .i32⟩
  | .hbm, ⟨68, _⟩ => ⟨S128, .i32⟩
  | .hbm, ⟨69, _⟩ => ⟨S128, .i32⟩
  | .hbm, ⟨70, _⟩ => ⟨S_, .i32⟩
  | _, _ => ⟨S128x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_1 : Ref sig .tc := ⟨.hbm, 13, rfl⟩
abbrev main_v10 : Ref sig .tc := ⟨.hbm, 14, rfl⟩
abbrev main_v11 : Ref sig .tc := ⟨.hbm, 15, rfl⟩
abbrev main_c_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_3 : Ref sig .tc := ⟨.hbm, 20, rfl⟩
abbrev main_v15 : Ref sig .tc := ⟨.hbm, 21, rfl⟩
abbrev main_v16 : Ref sig .tc := ⟨.hbm, 22, rfl⟩
abbrev main_c_4 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_5 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_6 : Ref sig .tc := ⟨.hbm, 43, rfl⟩
abbrev main_v35 : Ref sig .tc := ⟨.hbm, 44, rfl⟩
abbrev main_v36 : Ref sig .tc := ⟨.hbm, 45, rfl⟩
abbrev main_c_7 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c_8 : Ref sig .tc := ⟨.hbm, 50, rfl⟩
abbrev main_v40 : Ref sig .tc := ⟨.hbm, 51, rfl⟩
abbrev main_v41 : Ref sig .tc := ⟨.hbm, 52, rfl⟩
abbrev main_c_9 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_c_10 : Ref sig .tc := ⟨.hbm, 64, rfl⟩
abbrev main_v52 : Ref sig .tc := ⟨.hbm, 65, rfl⟩
abbrev main_v53 : Ref sig .tc := ⟨.hbm, 66, rfl⟩
abbrev main_c_11 : Ref sig .tc := ⟨.hbm, 67, rfl⟩
abbrev main_v54 : Ref sig .tc := ⟨.hbm, 68, rfl⟩
abbrev main_v55 : Ref sig .tc := ⟨.hbm, 69, rfl⟩
abbrev main_c_12 : Ref sig .tc := ⟨.hbm, 70, rfl⟩

abbrev nD : Nat := 1
abbrev τ : Topo := Topo.v7x

variable {F : FTy → Type} [FloatOps F]
-- ==== Proof.Table.lean ====
/-
  The table of row numbers that the kernel reads, in closed form. The program carries the table as a tree over the digits of an
  entry's number: a root of nine inner nodes, eight of them with 128 leaves and the last with 39, each leaf with 128 entries.
  `rootAt g` is that tree with entry `j` at the word of `g j`. It is `g` itself on the table's range (`rootAt_eq`), and the
  program's table is `rootAt row` (the modules after this one), so that an entry is never looked up by walking the tree.
-/
module

public import Idealize.ShloMosaic.PureOps
public import Mathlib.Tactic.IntervalCases

@[expose] public section

noncomputable section

namespace Cert.Proof.Table

/-- The 128 window starts, ten bits each, packed in one number: the start of window `n` is at bit `10 * n`. -/
abbrev packed : Nat :=
  0x5d8695b0bf4c65bd3e98e3366a0e7d9cc8a6acaac9cac59b2a3d2ab986258d293d962c57362741a0c58f6cdd8d476a96ed52de0b6d3aee5db698057fb9d05ac9983e9c37717637722da075b1ef85e636d05ce1e12327c6e8c588b31af1e6ab22a50dde6266290895e229a7d89ed883ad2bb33759d3066e6066275678667a0ec2d63d95b504daa3a45edbee4956e337115d5cd115e1e596f4ca98e03bee4cab5e

/-- The start of window `n`. -/
abbrev start (n : Nat) : Nat := Nat.shiftRight packed (10 * n) % 1024

/-- The row that entry `j` names: entry `j` is row `j % 1063` of window `j / 1063`, which begins at its start in the batch
    element's 2048 rows. -/
abbrev row (j : Nat) : Nat := j / 1063 * 2048 + start (j / 1063) + j % 1063

/-- Leaf `K` of the tree, which holds the entries from `128 * K` on, at entry `i`'s last digit. -/
abbrev leafAt (g : Nat → Nat) (K i : Nat) : BitVec 32 := match i % 128 with
  | 0 => BitVec.ofNat 32 (g (128 * K + 0))
  | 1 => BitVec.ofNat 32 (g (128 * K + 1))
  | 2 => BitVec.ofNat 32 (g (128 * K + 2))
  | 3 => BitVec.ofNat 32 (g (128 * K + 3))
  | 4 => BitVec.ofNat 32 (g (128 * K + 4))
  | 5 => BitVec.ofNat 32 (g (128 * K + 5))
  | 6 => BitVec.ofNat 32 (g (128 * K + 6))
  | 7 => BitVec.ofNat 32 (g (128 * K + 7))
  | 8 => BitVec.ofNat 32 (g (128 * K + 8))
  | 9 => BitVec.ofNat 32 (g (128 * K + 9))
  | 10 => BitVec.ofNat 32 (g (128 * K + 10))
  | 11 => BitVec.ofNat 32 (g (128 * K + 11))
  | 12 => BitVec.ofNat 32 (g (128 * K + 12))
  | 13 => BitVec.ofNat 32 (g (128 * K + 13))
  | 14 => BitVec.ofNat 32 (g (128 * K + 14))
  | 15 => BitVec.ofNat 32 (g (128 * K + 15))
  | 16 => BitVec.ofNat 32 (g (128 * K + 16))
  | 17 => BitVec.ofNat 32 (g (128 * K + 17))
  | 18 => BitVec.ofNat 32 (g (128 * K + 18))
  | 19 => BitVec.ofNat 32 (g (128 * K + 19))
  | 20 => BitVec.ofNat 32 (g (128 * K + 20))
  | 21 => BitVec.ofNat 32 (g (128 * K + 21))
  | 22 => BitVec.ofNat 32 (g (128 * K + 22))
  | 23 => BitVec.ofNat 32 (g (128 * K + 23))
  | 24 => BitVec.ofNat 32 (g (128 * K + 24))
  | 25 => BitVec.ofNat 32 (g (128 * K + 25))
  | 26 => BitVec.ofNat 32 (g (128 * K + 26))
  | 27 => BitVec.ofNat 32 (g (128 * K + 27))
  | 28 => BitVec.ofNat 32 (g (128 * K + 28))
  | 29 => BitVec.ofNat 32 (g (128 * K + 29))
  | 30 => BitVec.ofNat 32 (g (128 * K + 30))
  | 31 => BitVec.ofNat 32 (g (128 * K + 31))
  | 32 => BitVec.ofNat 32 (g (128 * K + 32))
  | 33 => BitVec.ofNat 32 (g (128 * K + 33))
  | 34 => BitVec.ofNat 32 (g (128 * K + 34))
  | 35 => BitVec.ofNat 32 (g (128 * K + 35))
  | 36 => BitVec.ofNat 32 (g (128 * K + 36))
  | 37 => BitVec.ofNat 32 (g (128 * K + 37))
  | 38 => BitVec.ofNat 32 (g (128 * K + 38))
  | 39 => BitVec.ofNat 32 (g (128 * K + 39))
  | 40 => BitVec.ofNat 32 (g (128 * K + 40))
  | 41 => BitVec.ofNat 32 (g (128 * K + 41))
  | 42 => BitVec.ofNat 32 (g (128 * K + 42))
  | 43 => BitVec.ofNat 32 (g (128 * K + 43))
  | 44 => BitVec.ofNat 32 (g (128 * K + 44))
  | 45 => BitVec.ofNat 32 (g (128 * K + 45))
  | 46 => BitVec.ofNat 32 (g (128 * K + 46))
  | 47 => BitVec.ofNat 32 (g (128 * K + 47))
  | 48 => BitVec.ofNat 32 (g (128 * K + 48))
  | 49 => BitVec.ofNat 32 (g (128 * K + 49))
  | 50 => BitVec.ofNat 32 (g (128 * K + 50))
  | 51 => BitVec.ofNat 32 (g (128 * K + 51))
  | 52 => BitVec.ofNat 32 (g (128 * K + 52))
  | 53 => BitVec.ofNat 32 (g (128 * K + 53))
  | 54 => BitVec.ofNat 32 (g (128 * K + 54))
  | 55 => BitVec.ofNat 32 (g (128 * K + 55))
  | 56 => BitVec.ofNat 32 (g (128 * K + 56))
  | 57 => BitVec.ofNat 32 (g (128 * K + 57))
  | 58 => BitVec.ofNat 32 (g (128 * K + 58))
  | 59 => BitVec.ofNat 32 (g (128 * K + 59))
  | 60 => BitVec.ofNat 32 (g (128 * K + 60))
  | 61 => BitVec.ofNat 32 (g (128 * K + 61))
  | 62 => BitVec.ofNat 32 (g (128 * K + 62))
  | 63 => BitVec.ofNat 32 (g (128 * K + 63))
  | 64 => BitVec.ofNat 32 (g (128 * K + 64))
  | 65 => BitVec.ofNat 32 (g (128 * K + 65))
  | 66 => BitVec.ofNat 32 (g (128 * K + 66))
  | 67 => BitVec.ofNat 32 (g (128 * K + 67))
  | 68 => BitVec.ofNat 32 (g (128 * K + 68))
  | 69 => BitVec.ofNat 32 (g (128 * K + 69))
  | 70 => BitVec.ofNat 32 (g (128 * K + 70))
  | 71 => BitVec.ofNat 32 (g (128 * K + 71))
  | 72 => BitVec.ofNat 32 (g (128 * K + 72))
  | 73 => BitVec.ofNat 32 (g (128 * K + 73))
  | 74 => BitVec.ofNat 32 (g (128 * K + 74))
  | 75 => BitVec.ofNat 32 (g (128 * K + 75))
  | 76 => BitVec.ofNat 32 (g (128 * K + 76))
  | 77 => BitVec.ofNat 32 (g (128 * K + 77))
  | 78 => BitVec.ofNat 32 (g (128 * K + 78))
  | 79 => BitVec.ofNat 32 (g (128 * K + 79))
  | 80 => BitVec.ofNat 32 (g (128 * K + 80))
  | 81 => BitVec.ofNat 32 (g (128 * K + 81))
  | 82 => BitVec.ofNat 32 (g (128 * K + 82))
  | 83 => BitVec.ofNat 32 (g (128 * K + 83))
  | 84 => BitVec.ofNat 32 (g (128 * K + 84))
  | 85 => BitVec.ofNat 32 (g (128 * K + 85))
  | 86 => BitVec.ofNat 32 (g (128 * K + 86))
  | 87 => BitVec.ofNat 32 (g (128 * K + 87))
  | 88 => BitVec.ofNat 32 (g (128 * K + 88))
  | 89 => BitVec.ofNat 32 (g (128 * K + 89))
  | 90 => BitVec.ofNat 32 (g (128 * K + 90))
  | 91 => BitVec.ofNat 32 (g (128 * K + 91))
  | 92 => BitVec.ofNat 32 (g (128 * K + 92))
  | 93 => BitVec.ofNat 32 (g (128 * K + 93))
  | 94 => BitVec.ofNat 32 (g (128 * K + 94))
  | 95 => BitVec.ofNat 32 (g (128 * K + 95))
  | 96 => BitVec.ofNat 32 (g (128 * K + 96))
  | 97 => BitVec.ofNat 32 (g (128 * K + 97))
  | 98 => BitVec.ofNat 32 (g (128 * K + 98))
  | 99 => BitVec.ofNat 32 (g (128 * K + 99))
  | 100 => BitVec.ofNat 32 (g (128 * K + 100))
  | 101 => BitVec.ofNat 32 (g (128 * K + 101))
  | 102 => BitVec.ofNat 32 (g (128 * K + 102))
  | 103 => BitVec.ofNat 32 (g (128 * K + 103))
  | 104 => BitVec.ofNat 32 (g (128 * K + 104))
  | 105 => BitVec.ofNat 32 (g (128 * K + 105))
  | 106 => BitVec.ofNat 32 (g (128 * K + 106))
  | 107 => BitVec.ofNat 32 (g (128 * K + 107))
  | 108 => BitVec.ofNat 32 (g (128 * K + 108))
  | 109 => BitVec.ofNat 32 (g (128 * K + 109))
  | 110 => BitVec.ofNat 32 (g (128 * K + 110))
  | 111 => BitVec.ofNat 32 (g (128 * K + 111))
  | 112 => BitVec.ofNat 32 (g (128 * K + 112))
  | 113 => BitVec.ofNat 32 (g (128 * K + 113))
  | 114 => BitVec.ofNat 32 (g (128 * K + 114))
  | 115 => BitVec.ofNat 32 (g (128 * K + 115))
  | 116 => BitVec.ofNat 32 (g (128 * K + 116))
  | 117 => BitVec.ofNat 32 (g (128 * K + 117))
  | 118 => BitVec.ofNat 32 (g (128 * K + 118))
  | 119 => BitVec.ofNat 32 (g (128 * K + 119))
  | 120 => BitVec.ofNat 32 (g (128 * K + 120))
  | 121 => BitVec.ofNat 32 (g (128 * K + 121))
  | 122 => BitVec.ofNat 32 (g (128 * K + 122))
  | 123 => BitVec.ofNat 32 (g (128 * K + 123))
  | 124 => BitVec.ofNat 32 (g (128 * K + 124))
  | 125 => BitVec.ofNat 32 (g (128 * K + 125))
  | 126 => BitVec.ofNat 32 (g (128 * K + 126))
  | 127 => BitVec.ofNat 32 (g (128 * K + 127))
  | _ => 0#32

/-- A full inner node: 128 leaves. -/
abbrev nodeAt (g : Nat → Nat) (B i : Nat) : BitVec 32 := match i / 128 % 128 with
  | 0 => leafAt g (128 * B + 0) i
  | 1 => leafAt g (128 * B + 1) i
  | 2 => leafAt g (128 * B + 2) i
  | 3 => leafAt g (128 * B + 3) i
  | 4 => leafAt g (128 * B + 4) i
  | 5 => leafAt g (128 * B + 5) i
  | 6 => leafAt g (128 * B + 6) i
  | 7 => leafAt g (128 * B + 7) i
  | 8 => leafAt g (128 * B + 8) i
  | 9 => leafAt g (128 * B + 9) i
  | 10 => leafAt g (128 * B + 10) i
  | 11 => leafAt g (128 * B + 11) i
  | 12 => leafAt g (128 * B + 12) i
  | 13 => leafAt g (128 * B + 13) i
  | 14 => leafAt g (128 * B + 14) i
  | 15 => leafAt g (128 * B + 15) i
  | 16 => leafAt g (128 * B + 16) i
  | 17 => leafAt g (128 * B + 17) i
  | 18 => leafAt g (128 * B + 18) i
  | 19 => leafAt g (128 * B + 19) i
  | 20 => leafAt g (128 * B + 20) i
  | 21 => leafAt g (128 * B + 21) i
  | 22 => leafAt g (128 * B + 22) i
  | 23 => leafAt g (128 * B + 23) i
  | 24 => leafAt g (128 * B + 24) i
  | 25 => leafAt g (128 * B + 25) i
  | 26 => leafAt g (128 * B + 26) i
  | 27 => leafAt g (128 * B + 27) i
  | 28 => leafAt g (128 * B + 28) i
  | 29 => leafAt g (128 * B + 29) i
  | 30 => leafAt g (128 * B + 30) i
  | 31 => leafAt g (128 * B + 31) i
  | 32 => leafAt g (128 * B + 32) i
  | 33 => leafAt g (128 * B + 33) i
  | 34 => leafAt g (128 * B + 34) i
  | 35 => leafAt g (128 * B + 35) i
  | 36 => leafAt g (128 * B + 36) i
  | 37 => leafAt g (128 * B + 37) i
  | 38 => leafAt g (128 * B + 38) i
  | 39 => leafAt g (128 * B + 39) i
  | 40 => leafAt g (128 * B + 40) i
  | 41 => leafAt g (128 * B + 41) i
  | 42 => leafAt g (128 * B + 42) i
  | 43 => leafAt g (128 * B + 43) i
  | 44 => leafAt g (128 * B + 44) i
  | 45 => leafAt g (128 * B + 45) i
  | 46 => leafAt g (128 * B + 46) i
  | 47 => leafAt g (128 * B + 47) i
  | 48 => leafAt g (128 * B + 48) i
  | 49 => leafAt g (128 * B + 49) i
  | 50 => leafAt g (128 * B + 50) i
  | 51 => leafAt g (128 * B + 51) i
  | 52 => leafAt g (128 * B + 52) i
  | 53 => leafAt g (128 * B + 53) i
  | 54 => leafAt g (128 * B + 54) i
  | 55 => leafAt g (128 * B + 55) i
  | 56 => leafAt g (128 * B + 56) i
  | 57 => leafAt g (128 * B + 57) i
  | 58 => leafAt g (128 * B + 58) i
  | 59 => leafAt g (128 * B + 59) i
  | 60 => leafAt g (128 * B + 60) i
  | 61 => leafAt g (128 * B + 61) i
  | 62 => leafAt g (128 * B + 62) i
  | 63 => leafAt g (128 * B + 63) i
  | 64 => leafAt g (128 * B + 64) i
  | 65 => leafAt g (128 * B + 65) i
  | 66 => leafAt g (128 * B + 66) i
  | 67 => leafAt g (128 * B + 67) i
  | 68 => leafAt g (128 * B + 68) i
  | 69 => leafAt g (128 * B + 69) i
  | 70 => leafAt g (128 * B + 70) i
  | 71 => leafAt g (128 * B + 71) i
  | 72 => leafAt g (128 * B + 72) i
  | 73 => leafAt g (128 * B + 73) i
  | 74 => leafAt g (128 * B + 74) i
  | 75 => leafAt g (128 * B + 75) i
  | 76 => leafAt g (128 * B + 76) i
  | 77 => leafAt g (128 * B + 77) i
  | 78 => leafAt g (128 * B + 78) i
  | 79 => leafAt g (128 * B + 79) i
  | 80 => leafAt g (128 * B + 80) i
  | 81 => leafAt g (128 * B + 81) i
  | 82 => leafAt g (128 * B + 82) i
  | 83 => leafAt g (128 * B + 83) i
  | 84 => leafAt g (128 * B + 84) i
  | 85 => leafAt g (128 * B + 85) i
  | 86 => leafAt g (128 * B + 86) i
  | 87 => leafAt g (128 * B + 87) i
  | 88 => leafAt g (128 * B + 88) i
  | 89 => leafAt g (128 * B + 89) i
  | 90 => leafAt g (128 * B + 90) i
  | 91 => leafAt g (128 * B + 91) i
  | 92 => leafAt g (128 * B + 92) i
  | 93 => leafAt g (128 * B + 93) i
  | 94 => leafAt g (128 * B + 94) i
  | 95 => leafAt g (128 * B + 95) i
  | 96 => leafAt g (128 * B + 96) i
  | 97 => leafAt g (128 * B + 97) i
  | 98 => leafAt g (128 * B + 98) i
  | 99 => leafAt g (128 * B + 99) i
  | 100 => leafAt g (128 * B + 100) i
  | 101 => leafAt g (128 * B + 101) i
  | 102 => leafAt g (128 * B + 102) i
  | 103 => leafAt g (128 * B + 103) i
  | 104 => leafAt g (128 * B + 104) i
  | 105 => leafAt g (128 * B + 105) i
  | 106 => leafAt g (128 * B + 106) i
  | 107 => leafAt g (128 * B + 107) i
  | 108 => leafAt g (128 * B + 108) i
  | 109 => leafAt g (128 * B + 109) i
  | 110 => leafAt g (128 * B + 110) i
  | 111 => leafAt g (128 * B + 111) i
  | 112 => leafAt g (128 * B + 112) i
  | 113 => leafAt g (128 * B + 113) i
  | 114 => leafAt g (128 * B + 114) i
  | 115 => leafAt g (128 * B + 115) i
  | 116 => leafAt g (128 * B + 116) i
  | 117 => leafAt g (128 * B + 117) i
  | 118 => leafAt g (128 * B + 118) i
  | 119 => leafAt g (128 * B + 119) i
  | 120 => leafAt g (128 * B + 120) i
  | 121 => leafAt g (128 * B + 121) i
  | 122 => leafAt g (128 * B + 122) i
  | 123 => leafAt g (128 * B + 123) i
  | 124 => leafAt g (128 * B + 124) i
  | 125 => leafAt g (128 * B + 125) i
  | 126 => leafAt g (128 * B + 126) i
  | 127 => leafAt g (128 * B + 127) i
  | _ => 0#32

/-- The last inner node: the 39 leaves left. -/
abbrev lastAt (g : Nat → Nat) (i : Nat) : BitVec 32 := match i / 128 % 128 with
  | 0 => leafAt g (128 * 8 + 0) i
  | 1 => leafAt g (128 * 8 + 1) i
  | 2 => leafAt g (128 * 8 + 2) i
  | 3 => leafAt g (128 * 8 + 3) i
  | 4 => leafAt g (128 * 8 + 4) i
  | 5 => leafAt g (128 * 8 + 5) i
  | 6 => leafAt g (128 * 8 + 6) i
  | 7 => leafAt g (128 * 8 + 7) i
  | 8 => leafAt g (128 * 8 + 8) i
  | 9 => leafAt g (128 * 8 + 9) i
  | 10 => leafAt g (128 * 8 + 10) i
  | 11 => leafAt g (128 * 8 + 11) i
  | 12 => leafAt g (128 * 8 + 12) i
  | 13 => leafAt g (128 * 8 + 13) i
  | 14 => leafAt g (128 * 8 + 14) i
  | 15 => leafAt g (128 * 8 + 15) i
  | 16 => leafAt g (128 * 8 + 16) i
  | 17 => leafAt g (128 * 8 + 17) i
  | 18 => leafAt g (128 * 8 + 18) i
  | 19 => leafAt g (128 * 8 + 19) i
  | 20 => leafAt g (128 * 8 + 20) i
  | 21 => leafAt g (128 * 8 + 21) i
  | 22 => leafAt g (128 * 8 + 22) i
  | 23 => leafAt g (128 * 8 + 23) i
  | 24 => leafAt g (128 * 8 + 24) i
  | 25 => leafAt g (128 * 8 + 25) i
  | 26 => leafAt g (128 * 8 + 26) i
  | 27 => leafAt g (128 * 8 + 27) i
  | 28 => leafAt g (128 * 8 + 28) i
  | 29 => leafAt g (128 * 8 + 29) i
  | 30 => leafAt g (128 * 8 + 30) i
  | 31 => leafAt g (128 * 8 + 31) i
  | 32 => leafAt g (128 * 8 + 32) i
  | 33 => leafAt g (128 * 8 + 33) i
  | 34 => leafAt g (128 * 8 + 34) i
  | 35 => leafAt g (128 * 8 + 35) i
  | 36 => leafAt g (128 * 8 + 36) i
  | 37 => leafAt g (128 * 8 + 37) i
  | 38 => leafAt g (128 * 8 + 38) i
  | _ => 0#32

/-- The root. -/
abbrev rootAt (g : Nat → Nat) (i : Nat) : BitVec 32 := match i / 16384 with
  | 0 => nodeAt g 0 i
  | 1 => nodeAt g 1 i
  | 2 => nodeAt g 2 i
  | 3 => nodeAt g 3 i
  | 4 => nodeAt g 4 i
  | 5 => nodeAt g 5 i
  | 6 => nodeAt g 6 i
  | 7 => nodeAt g 7 i
  | 8 => lastAt g i
  | _ => 0#32

/-- A leaf's entry is the word of `g` there. -/
theorem leafAt_eq (g : Nat → Nat) (K i : Nat) : leafAt g K i = BitVec.ofNat 32 (g (128 * K + i % 128)) := by
  have h : i % 128 < 128 := Nat.mod_lt _ (by decide)
  unfold leafAt
  generalize i % 128 = r at h ⊢
  interval_cases r <;> rfl

/-- An inner node's entry is its leaf's. -/
theorem nodeAt_eq (g : Nat → Nat) (B i : Nat) : nodeAt g B i = leafAt g (128 * B + i / 128 % 128) i := by
  have h : i / 128 % 128 < 128 := Nat.mod_lt _ (by decide)
  unfold nodeAt
  generalize i / 128 % 128 = r at h ⊢
  interval_cases r <;> rfl

/-- The last node's, on its 39 leaves. -/
theorem lastAt_eq (g : Nat → Nat) (i : Nat) (h : i / 128 % 128 < 39) : lastAt g i = leafAt g (128 * 8 + i / 128 % 128) i := by
  unfold lastAt
  generalize i / 128 % 128 = r at h ⊢
  interval_cases r <;> rfl

/-- The root's entry is its node's. -/
theorem rootAt_node (g : Nat → Nat) (i : Nat) (h : i / 16384 < 8) : rootAt g i = nodeAt g (i / 16384) i := by
  unfold rootAt
  generalize i / 16384 = r at h ⊢
  interval_cases r <;> rfl
theorem rootAt_last (g : Nat → Nat) (i : Nat) (h : i / 16384 = 8) : rootAt g i = lastAt g i := by
  unfold rootAt
  rw [h]; rfl

/-- On the table's 136064 entries the tree is the function it was built over. -/
theorem rootAt_eq (g : Nat → Nat) (i : Nat) (h : i < 136064) : rootAt g i = BitVec.ofNat 32 (g i) := by
  by_cases h8 : i / 16384 < 8
  · rw [rootAt_node g i h8, nodeAt_eq, leafAt_eq, show 128 * (128 * (i / 16384) + i / 128 % 128) + i % 128 = i by omega]
  · rw [rootAt_last g i (by omega), lastAt_eq g i (by omega), leafAt_eq, show 128 * (128 * 8 + i / 128 % 128) + i % 128 = i by omega]

/-- Every window starts low enough for its 1063 rows to lie inside its batch element, and no lower than row 102. -/
theorem start_bounds : ∀ n : Fin 128, 102 ≤ start n.val ∧ start n.val ≤ 908 := by decide +kernel

/-- Every row number is a row of the flattened operand. -/
theorem row_lt (j : Nat) (h : j < 136064) : row j < 262144 := by
  have hs := (start_bounds ⟨j / 1063, by omega⟩).2
  simp only [row] at hs ⊢
  omega

end Cert.Proof.Table

end
-- ==== Proof.KernelTable.lean ====
/-
  `Kernel`'s index table and its two tables of window starts, in closed form (the tree of Proof/Table.lean).
-/
module

public import proofs.«01_k».proof.Kernel
public import proofs.«01_k».proof.Proof.Table

@[expose] public section

namespace Cert.Kernel.Table

open Cert.Proof.Table

set_option maxHeartbeats 40000000 in
/-- The printed tree is the closed form's tree: the two are compared leaf by leaf. -/
theorem lit0t_eq : lit0t = rootAt row := rfl

/-- Entry `j` of the index table is the row number `row j`. -/
theorem lit0_eq (j : Fin 136064) : lit0 j = BitVec.ofNat 32 (row j.val) :=
  (congrFun lit0t_eq j.val).trans (rootAt_eq row j.val j.isLt)

/-- The starts less 95, and the starts, as the program returns them. -/
theorem lit1_eq : ∀ n : Fin 128, lit1 n = BitVec.ofNat 32 (start n.val - 95) := by decide +kernel
theorem lit2_eq : ∀ n : Fin 128, lit2 n = BitVec.ofNat 32 (start n.val) := by decide +kernel

end Cert.Kernel.Table
-- ==== Proof.KernelIdealTable.lean ====
/-
  `KernelIdeal`'s index table and its two tables of window starts, in closed form (the tree of Proof/Table.lean).
-/
module

public import proofs.«01_k».proof.KernelIdeal
public import proofs.«01_k».proof.Proof.Table

@[expose] public section

namespace Cert.KernelIdeal.Table

open Cert.Proof.Table

set_option maxHeartbeats 40000000 in
/-- The printed tree is the closed form's tree: the two are compared leaf by leaf. -/
theorem lit0t_eq : lit0t = rootAt row := rfl

/-- Entry `j` of the index table is the row number `row j`. -/
theorem lit0_eq (j : Fin 136064) : lit0 j = BitVec.ofNat 32 (row j.val) :=
  (congrFun lit0t_eq j.val).trans (rootAt_eq row j.val j.isLt)

/-- The starts less 95, and the starts, as the program returns them. -/
theorem lit1_eq : ∀ n : Fin 128, lit1 n = BitVec.ofNat 32 (start n.val - 95) := by decide +kernel
theorem lit2_eq : ∀ n : Fin 128, lit2 n = BitVec.ofNat 32 (start n.val) := by decide +kernel

end Cert.KernelIdeal.Table
-- ==== Proof.KernelIdealSetup.lean ====
/-
  The set-up of the kernel's run: the launch's configuration, the arrays as the TensorCore and the tiles name them, what
  each array holds before and after the call, which output rows each core and each tile owns, and what the call's
  handshakes carry.

  The call gathers rows of the table `x` (the argument with its first two axes merged) named by the row list `c`, into
  the output `o`. The output has 1063 blocks of 128 rows; tile `(c, s)` has worker number `2 s + c` and writes the blocks
  whose number leaves that remainder modulo 32, one block a trip.
-/
module

public import proofs.«01_k».proof.Defs
public import proofs.«01_k».proof.Proof.KernelIdealTable
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Table (row row_lt start)

variable {F : FTy → Type}

/-! ## The program as the launch theorem reads it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are distinct and none of them is a kernel's. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

abbrev aLoc (d : Dev nD) : Loc nD τ sig := (SparseCore.T d).loc main_arg0
abbrev cLoc (d : Dev nD) : Loc nD τ sig := (SparseCore.T d).loc main_c
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

abbrev xV : Memref sig .scVector .hbm S262144x128 .f32 := Memref.whole main_v0_scv
abbrev cV : Memref sig .scVector .hbm S136064 .i32 := Memref.whole main_c_scv
abbrev oV : Memref sig .scVector .hbm S136064x128 .f32 := Memref.whole main_v1_scv
abbrev sV : Memref sig .scVector .vmem S128 .i32 := Memref.whole cc0_scratch0
abbrev rV : Memref sig .scVector .vmem S128x128 .f32 := Memref.whole cc0_scratch1

/-! ## What the arrays hold -/

/-- The row list: entry `j` is the row of the table that output row `j` takes. -/
@[irreducible] def listC : S136064.Idx → BitVec 32 := fun i => lit0 (S136064.rowMajor i)

/-- Entry `j` of the list, as a number. -/
theorem listC_toNat (i : S136064.Idx) : (listC i).toNat = row (i 0).val := by
  have e : listC i = BitVec.ofNat 32 (row (i 0).val) := by
    unfold listC
    refine (Cert.KernelIdeal.Table.lit0_eq (S136064.rowMajor i)).trans ?_
    exact congrArg (fun n => BitVec.ofNat 32 (row n)) (Shape.rowMajor_val_one i)
  rw [e, BitVec.toNat_ofNat]
  have := row_lt _ (i 0).isLt
  omega

/-- Row `a`, column `b` of the table. -/
def tableIx (a : ℕ) (b : Fin 128) (h : a < 262144) : S262144x128.Idx := fun
  | 0 => ⟨a, h⟩
  | 1 => b

/-- The table: the argument with its first two axes merged. -/
def tableC (d : Dev nD) : S262144x128.Idx → Elt F .f32 :=
  shapeCast S262144x128 (m (aLoc d) : S128x2048x128.Idx → Elt F .f32) shapeCasts_S128x2048x128_S262144x128

/-- What the call leaves in the output: row `j` is row `row j` of the table. -/
def outC (d : Dev nD) : S136064x128.Idx → Elt F .f32 := fun j =>
  tableC m d (tableIx (row (j 0).val) (j 1) (row_lt _ (j 0).isLt))

/-- The output before trip `k` of a tile: its blocks below the trip's are done, the others are as the launch left them. -/
def mixC (d : Dev nD) (k : ℕ) : S136064x128.Idx → Elt F .f32 := fun j =>
  if (j 0).val / 4096 < k then outC m d j else m (oLoc d) j

/-! ## Who owns which output rows -/

/-- The output rows of tile `s` of core `c`. -/
def tileSet (c : Fin 2) (s : Fin 16) : Finset S136064x128.Idx :=
  Finset.univ.filter fun j => (j 0).val / 128 % 32 = 2 * s.val + c.val
/-- The output rows of core `c`. -/
def coreSet (c : Fin 2) : Finset S136064x128.Idx :=
  Finset.univ.filter fun j => (j 0).val / 128 % 2 = c.val

omit m ρ in
theorem mem_tileSet (c : Fin 2) (s : Fin 16) (j : S136064x128.Idx) :
    j ∈ tileSet c s ↔ (j 0).val / 128 % 32 = 2 * s.val + c.val := by simp [tileSet]
omit m ρ in
theorem mem_coreSet (c : Fin 2) (j : S136064x128.Idx) : j ∈ coreSet c ↔ (j 0).val / 128 % 2 = c.val := by simp [coreSet]

theorem tiles_disjoint (c : Fin 2) : ∀ s ∈ (Finset.univ : Finset (Fin 16)), ∀ t ∈ (Finset.univ : Finset (Fin 16)), s ≠ t →
    Disjoint (tileSet c s) (tileSet c t) := by
  intro s _ t _ h
  refine Finset.disjoint_left.mpr fun j hs ht => h (Fin.ext ?_)
  rw [mem_tileSet] at hs ht; omega
theorem tiles_cover (c : Fin 2) : (Finset.univ : Finset (Fin 16)).biUnion (tileSet c) = coreSet c := by
  ext j
  simp only [Finset.mem_biUnion, Finset.mem_univ, true_and, mem_tileSet, mem_coreSet]
  have := c.isLt
  constructor
  · rintro ⟨s, hs⟩; omega
  · intro h; exact ⟨⟨(j 0).val / 128 % 32 / 2, by omega⟩, by dsimp only; omega⟩
theorem cores_disjoint : ∀ s ∈ (Finset.univ : Finset (Fin 2)), ∀ t ∈ (Finset.univ : Finset (Fin 2)), s ≠ t →
    Disjoint (coreSet s) (coreSet t) := by
  intro s _ t _ h
  refine Finset.disjoint_left.mpr fun j hs ht => h (Fin.ext ?_)
  rw [mem_coreSet] at hs ht; omega
theorem cores_cover : (Finset.univ : Finset (Fin 2)).biUnion coreSet = Finset.univ := by
  ext j
  simp only [Finset.mem_biUnion, Finset.mem_univ, true_and, mem_coreSet, iff_true]
  exact ⟨⟨(j 0).val / 128 % 2, by omega⟩, rfl⟩

/-- The read share of core `c`, and of its tile `s`. -/
def coreShare (c : Fin 2) : PosShare TreeShare := Transfers.shareTok fullShare 2 c
def tileShare (c : Fin 2) (s : Fin 16) : PosShare TreeShare := Transfers.shareTok (coreShare c) 16 s

/-! ## What the handshakes carry -/

variable [FloatOps F]

abbrev xPts (d : Dev nD) (q : PosShare TreeShare) : sProp 𝕄 := xLoc d ↦{q} tableC m d
abbrev cPts (d : Dev nD) (q : PosShare TreeShare) : sProp 𝕄 := (cLoc d ↦{q} (listC : Buf (Elt F) (cLoc d)))
abbrev oPts (d : Dev nD) (I : Finset S136064x128.Idx) (f : S136064x128.Idx → Elt F .f32) : sProp 𝕄 := oLoc d ↦[I]{fullShare} f

abbrev cIx (c : Fin ((K (F := F)).nCore 0)) : Fin 2 := Fin.cast nCore_zero c
abbrev sIx (i : Fin ((K (F := F)).nSub 0)) : Fin 16 := Fin.cast nSub_zero i

/-- The one call takes a read share of the table and of the list to each core and each tile, and the output rows it owns;
    the shares come back, and the rows with the gathered values. -/
def P : (K (F := F)).Pay (nD := nD) (Val := Elt F) (Name := ℕ) (U := UU) where
  st := fun q d c => match q with
    | 0 => iprop(xPts m d (coreShare (cIx c)) ∗ cPts d (coreShare (cIx c)) ∗ oPts d (coreSet (cIx c)) (m (oLoc d)))
  dn := fun q d c => match q with
    | 0 => iprop(xPts m d (coreShare (cIx c)) ∗ cPts d (coreShare (cIx c)) ∗ oPts d (coreSet (cIx c)) (outC m d))
  go := fun q d c i => match q with
    | 0 => iprop(xPts m d (tileShare (cIx c) (sIx i)) ∗ cPts d (tileShare (cIx c) (sIx i)) ∗ oPts d (tileSet (cIx c) (sIx i)) (m (oLoc d)))
  td := fun q d c i => match q with
    | 0 => iprop(xPts m d (tileShare (cIx c) (sIx i)) ∗ cPts d (tileShare (cIx c) (sIx i)) ∗ oPts d (tileSet (cIx c) (sIx i)) (outC m d))
  x := fun _ _ => iprop(emp)

instance P_storable : (P (F := F) m).IsStorable where
  st q d c := match q with
    | 0 => (inferInstance : BI.Storable (upEmb : UEmb _ 𝕄)
      iprop(xPts m d (coreShare (cIx c)) ∗ cPts d (coreShare (cIx c)) ∗ oPts d (coreSet (cIx c)) (m (oLoc d))))
  dn q d c := match q with
    | 0 => (inferInstance : BI.Storable (upEmb : UEmb _ 𝕄)
      iprop(xPts m d (coreShare (cIx c)) ∗ cPts d (coreShare (cIx c)) ∗ oPts d (coreSet (cIx c)) (outC m d)))
  go q d c i := match q with
    | 0 => (inferInstance : BI.Storable (upEmb : UEmb _ 𝕄)
      iprop(xPts m d (tileShare (cIx c) (sIx i)) ∗ cPts d (tileShare (cIx c) (sIx i)) ∗ oPts d (tileSet (cIx c) (sIx i)) (m (oLoc d))))
  td q d c i := match q with
    | 0 => (inferInstance : BI.Storable (upEmb : UEmb _ 𝕄)
      iprop(xPts m d (tileShare (cIx c) (sIx i)) ∗ cPts d (tileShare (cIx c) (sIx i)) ∗ oPts d (tileSet (cIx c) (sIx i)) (outC m d)))

end Cert.Proof.KernelIdealRun

end
-- ==== Proof.KernelIdealTile.lean ====
/-
  One tile's run: trip by trip it fetches the 128 row numbers of its next block, gathers those rows of the table into its
  row buffer by the indirect stream, and writes them out to the block.

  The loop's invariant carries the values: before trip `k` the tile's output rows hold `mixC k` — the gathered rows in the
  blocks already done, the launch's contents in the others.
-/
module

public import proofs.«01_k».proof.Proof.KernelIdealSetup

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Table (row row_lt start)

variable {F : FTy → Type}

local notation "𝕄" => MT nD τ sig (HIx 1) (Elt F) ℕ UU ℕ

variable (m : (ℓ : Loc nD τ sig) → Buf (Elt F) ℓ)

/-! ## The tile's thread, its views and its cells -/

theorem bound_zero : grid0.bound 0 = 2 := rfl
theorem bound_one : grid0.bound 1 = 16 := rfl

variable (d : Dev nD) (L : grid0.Coords)

/-- The core's and the tile's number. -/
abbrev cOf (L : grid0.Coords) : Fin 2 := Fin.cast bound_zero (L 0)
abbrev sOf (L : grid0.Coords) : Fin 16 := Fin.cast bound_one (L 1)
/-- The tile's thread. -/
abbrev thr (d : Dev nD) (L : grid0.Coords) : Thread nD τ := V d ((L 0).castLE hcore0) ((L 1).castLE hsub0)

/-- How many trips the loop makes; the second loop makes none. -/
theorem trips_eq : ∀ L : grid0.Coords, (k0_t1_loop L).trips = (1094 - (2 * (L 1).val + (L 0).val)) / 32 := by decide +kernel

/-- Trip `k`'s piece of the list, its block of the output, and all of the table, as the tile addresses them. -/
abbrev listK (L : grid0.Coords) (k : Fin (k0_t1_loop L).trips) : Memref sig .scVector .hbm S128 .i32 :=
  cV.slice (Rect.unit (s := S136064) (k0_off1 L k) S128.size (k0_off1_inb L k)) (fun _ => rfl)
abbrev outK (L : grid0.Coords) (k : Fin (k0_t1_loop L).trips) : Memref sig .scVector .hbm S128x128 .f32 :=
  oV.slice (Rect.unit (s := S136064x128) (k0_off2 L k) S128x128.size (k0_off2_inb L k)) (fun _ => rfl)
abbrev allK : Memref sig .scVector .hbm S262144x128 .f32 :=
  xV.slice (Rect.unit (s := S262144x128) ![0, 0] S262144x128.size inb_S262144x128_S262144x128_0_0) (fun _ => rfl)

/-- The block's elements: its 128 rows, every column. -/
theorem mem_outK (k : Fin (k0_t1_loop L).trips) (j : S136064x128.Idx) :
    j ∈ (outK L k).view.set ↔ 256 * (L 1).val + 128 * (L 0).val + 4096 * k.val ≤ (j 0).val
      ∧ (j 0).val < 256 * (L 1).val + 128 * (L 0).val + 4096 * k.val + 128 := by
  have e : (outK L k).view.set = (Rect.unit (s := S136064x128) (k0_off2 L k) S128x128.size (k0_off2_inb L k)).set := by
    show ((View.whole (main_v1_scv : Ref sig .scVector)).slice _).set = _
    rw [View.set_slice]; exact Finset.map_refl
  rw [e, Rect.mem_set_unit, k0_off2_eq]
  constructor
  · intro h; exact h 0
  · intro h a
    match a with
    | 0 => exact h
    | 1 => exact ⟨Nat.zero_le _, by simpa using (j 1).isLt⟩

/-- The block is the tile's. -/
theorem outK_sub (k : Fin (k0_t1_loop L).trips) : (outK L k).view.set ⊆ tileSet (cOf L) (sOf L) := by
  intro j hj
  rw [mem_outK] at hj; rw [mem_tileSet]
  have h0 : (L 0).val < 2 := (L 0).isLt
  have h1 : (L 1).val < 16 := (L 1).isLt
  show (j 0).val / 128 % 32 = 2 * (L 1).val + (L 0).val
  omega

/-- On the block the next trip's contents are the gathered rows; -/
theorem mix_in (k : Fin (k0_t1_loop L).trips) (j : S136064x128.Idx) (hj : j ∈ (outK L k).view.set) :
    mixC m d (k.val + 1) j = outC m d j := by
  rw [mem_outK] at hj
  have h0 : (L 0).val < 2 := (L 0).isLt
  have h1 : (L 1).val < 16 := (L 1).isLt
  exact if_pos (by omega)

/-- off it, on the tile's other rows, nothing changes. -/
theorem mix_off (k : Fin (k0_t1_loop L).trips) (j : S136064x128.Idx) (hj : j ∈ tileSet (cOf L) (sOf L) \ (outK L k).view.set) :
    mixC m d k.val j = mixC m d (k.val + 1) j := by
  rw [Finset.mem_sdiff, mem_outK, mem_tileSet] at hj
  obtain ⟨ht, hn⟩ := hj
  have h0 : (L 0).val < 2 := (L 0).isLt
  have h1 : (L 1).val < 16 := (L 1).isLt
  have ht : (j 0).val / 128 % 32 = 2 * (L 1).val + (L 0).val := ht
  unfold mixC
  refine if_congr ?_ rfl rfl
  omega

/-- Before the first trip the rows are the launch's; -/
theorem mix_first (j : S136064x128.Idx) : mixC m d 0 j = m (oLoc d) j := if_neg (Nat.not_lt_zero _)

/-- after the last one every row of the tile is done. -/
theorem mix_last (j : S136064x128.Idx) (hj : j ∈ tileSet (cOf L) (sOf L)) : mixC m d (k0_t1_loop L).trips j = outC m d j := by
  rw [mem_tileSet] at hj
  have ht : (j 0).val / 128 % 32 = 2 * (L 1).val + (L 0).val := hj
  have h0 : (L 0).val < 2 := (L 0).isLt
  have h1 : (L 1).val < 16 := (L 1).isLt
  have hb : (j 0).val < 136064 := (j 0).isLt
  rw [trips_eq]
  exact if_pos (by omega)

/-! ## What one trip moves -/

/-- The trip's list piece at `y` is entry `offset + y` of the list. -/
theorem listK_read (k : Fin (k0_t1_loop L).trips) (y : S128.Idx) :
    ((listK L k).view.read (Elt F) listC y).toNat
      = row (256 * (L 1).val + 128 * (L 0).val + 4096 * k.val + (y 0).val) := by
  have e : (listK L k).view.read (Elt F) listC y = listC ((listK L k).view.emb y) :=
    (View.read_apply _ _).trans (cast_eq _ _)
  rw [e, listC_toNat]
  congr 1
  show k0_off1 L k 0 + 1 * (y 0).val = _
  rw [k0_off1_eq]
  show 256 * (L 1).val + 128 * (L 0).val + 4096 * k.val + 1 * (y 0).val = _
  omega

/-- Every row number of the piece is a row of the table. -/
theorem listK_lt (k : Fin (k0_t1_loop L).trips) (y : S128.Idx) :
    ((listK L k).view.read (Elt F) listC y).toNat < S262144x128.size gathers_S262144x128_S128x128.axis := by
  rw [listK_read]
  refine row_lt _ ?_
  have h := k0_off1_inb L k 0
  rw [k0_off1_eq] at h
  have h' : 256 * (L 1).val + 128 * (L 0).val + 4096 * k.val + 128 ≤ 136064 := h
  have hy : (y 0).val < 128 := (y 0).isLt
  omega

/-- So are the words the stream reads, whatever the buffer held before the fetch. -/
theorem fetched_lt (k : Fin (k0_t1_loop L).trips) (fs : Buf (Elt F) ((thr d L).loc cc0_scratch0)) (pay : S128.Idx → Elt F .i32)
    (hpay : pay = (listK L k).view.read (Elt F) listC) :
    ∀ x, (sV.view.read (Elt F) (View.write (Elt F) sV.view fs pay Finset.univ) x).toNat < S262144x128.size gathers_S262144x128_S128x128.axis := by
  subst hpay; intro x
  rw [View.write_whole_univ]
  simp only [Memref.view_whole, View.read_whole]
  exact listK_lt L k x

end Cert.Proof.KernelIdealRun

end
-- ==== Proof.KernelIdealBody.lean ====
/-
  The tile's program run: one trip of the loop by the executor and the indirect stream's rule, and the loop at its
  invariant.
-/
module

public import proofs.«01_k».proof.Proof.KernelIdealTile

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Table (row row_lt start)

variable {F : FTy → Type}

local notation "𝕄" => MT nD τ sig (HIx 1) (Elt F) ℕ UU ℕ

variable (m : (ℓ : Loc nD τ sig) → Buf (Elt F) ℓ)
variable (d : Dev nD) (L : grid0.Coords)

/-- The rows the stream lands: row `y 0` of the buffer is row `row (offset + y 0)` of the table, which is what the
    block's row wants. -/
theorem gathered (k : Fin (k0_t1_loop L).trips) (idx : S128.Idx → Elt F .i32)
    (hidx : ∀ x, (idx x).toNat = row (256 * (L 1).val + 128 * (L 0).val + 4096 * k.val + (x 0).val))
    (hin : ∀ x, (idx x).toNat < S262144x128.size gathers_S262144x128_S128x128.axis) (y : S128x128.Idx) :
    SparseCore.gatherPayload gathers_S262144x128_S128x128 (allK.view.read (Elt F) (tableC m d))
        (SparseCore.rows idx (rfl : S128.numel = S128x128.size gathers_S262144x128_S128x128.axis') hin) y
      = outC m d ((outK L k).view.emb y) := by
  have e : ∀ z, allK.view.read (Elt F) (tableC m d) z = tableC m d (allK.view.emb z) := fun z => (View.read_apply _ _).trans (cast_eq _ _)
  unfold SparseCore.gatherPayload outC
  rw [e]
  congr 1
  have hz : ∀ z : S262144x128.Idx, allK.view.emb z = z := fun z => funext fun a => Fin.ext (by
    show (![0, 0] : Fin 2 → ℕ) a + 1 * (z a).val = (z a).val
    match a with
    | 0 => simp
    | 1 => simp)
  rw [hz]
  funext a
  match a with
  | 0 =>
    refine (Shape.Gathers.idx_axis gathers_S262144x128_S128x128 _ y).trans (Fin.ext ?_)
    show (idx _).toNat = row _
    rw [hidx]
    congr 1
    have h1 : ((S128.rowMajor.symm ((y 0).cast rfl)) 0).val = (y 0).val := by
      rw [← Shape.rowMajor_val_one]
      exact congrArg Fin.val (S128.rowMajor.apply_symm_apply _)
    have h2 : ((outK L k).view.emb y 0).val = k0_off2 L k 0 + 1 * (y 0).val := rfl
    rw [h2, k0_off2_eq]
    show _ + ((S128.rowMajor.symm ((y 0).cast rfl)) 0).val = 256 * (L 1).val + 128 * (L 0).val + 4096 * k.val + 1 * (y 0).val
    rw [h1]; omega
  | 1 =>
    refine Fin.ext ((Shape.Gathers.idx_of_ne gathers_S262144x128_S128x128 _ y 1 (by decide)).trans ?_)
    show (y 1).val = k0_off2 L k 1 + 1 * (y 1).val
    rw [k0_off2_eq]; simp

/-- The block after the write-out holds the next trip's contents. -/
theorem landed (k : Fin (k0_t1_loop L).trips) (g : S136064x128.Idx → Elt F .f32)
    (hg : ∀ y, (outK L k).view.read (Elt F) g y = outC m d ((outK L k).view.emb y)) :
    ∀ j ∈ (outK L k).view.set, g j = mixC m d (k.val + 1) j := by
  intro j hj
  rw [mix_in m d L k j hj]
  obtain ⟨y, -, rfl⟩ := Finset.mem_map.mp hj
  rw [← hg y, View.read_apply]
  exact (cast_eq _ _).symm

/-! ## The buffers and the semaphores the tile owns -/

abbrev semG (d : Dev nD) (L : grid0.Coords) : GSem nD τ sig := (thr d L, .dma cc0_scratch2.sem)
abbrev semA (d : Dev nD) (L : grid0.Coords) : GSem nD τ sig := (thr d L, .dma cc0_scoped0.sem)
abbrev semB (d : Dev nD) (L : grid0.Coords) : GSem nD τ sig := (thr d L, .dma cc0_scoped1.sem)

/-- The three semaphores the first loop uses, and the rest. -/
theorem ownSems0_thr :
    (ownSems0 (thr d L) : sProp 𝕄)
      = iprop(semVal (semG d L) 0 ∗ semVal (semA d L) 0 ∗ semVal (semB d L) 0
          ∗ bigSep ((((ownCells (thr d L)).erase (semG d L)).erase (semA d L)).erase (semB d L)) fun g => semVal g 0) := by
  unfold SparseCore.Cfg.ownSems0
  rw [SparseCore.bigSep_erase' ((mem_ownCells (g := semG d L)).mpr ⟨rfl, by
      show (SemLoc.dma cc0_scratch2.sem : SemLoc sig).isScoped .scVector = true; decide⟩),
    SparseCore.bigSep_erase' (Finset.mem_erase.mpr ⟨by simp [semG, semA]; decide, (mem_ownCells (g := semA d L)).mpr ⟨rfl, by
      show (SemLoc.dma cc0_scoped0.sem : SemLoc sig).isScoped .scVector = true; decide⟩⟩),
    SparseCore.bigSep_erase' (Finset.mem_erase.mpr ⟨by simp [semA, semB]; decide, Finset.mem_erase.mpr ⟨by simp [semG, semB]; decide,
      (mem_ownCells (g := semB d L)).mpr ⟨rfl, by show (SemLoc.dma cc0_scoped1.sem : SemLoc sig).isScoped .scVector = true; decide⟩⟩⟩)]

/-- The two scratch buffers, at some contents, and the rest. -/
theorem ownBufs_thr :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (thr d L).2).erase ((thr d L).2.devRef cc0_scratch0)).erase ((thr d L).2.devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := (thr d L).2) (b := (thr d L).2.devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := (thr d L).2) (b := (thr d L).2.devRef cc0_scratch1) rfl⟩)]

end Cert.Proof.KernelIdealRun

end
-- ==== Proof.KernelIdealTask.lean ====
/-
  The tile's task: one trip, the loop at its invariant, the second loop (no trips), the return.
-/
module

public import proofs.«01_k».proof.Proof.KernelIdealBody

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Table (row row_lt start)

variable {F : FTy → Type}

local notation "𝕄" => MT nD τ sig (HIx 1) (Elt F) ℕ UU ℕ

variable (m : (ℓ : Loc nD τ sig) → Buf (Elt F) ℓ)
variable (d : Dev nD) (L : grid0.Coords)

variable [FloatOps F]

/-- Before trip `k`: the tile's read shares of the table and of the list, its output rows at `mixC k`, its two scratch
    buffers at some contents, its three semaphores at zero, and what it owes, with the waits so far recorded. -/
def inv (O : CellTallies nD τ sig (HIx 1)) (W : Waits sig (HIx 1)) (k : ℕ) (_ : PUnit) : sProp 𝕄 :=
  iprop(Transfers.MayWaits (thr d L) (default : HIx 1) O
    ∗ (xLoc d ↦{tileShare (cOf L) (sOf L)} tableC m d)
    ∗ (cLoc d ↦{tileShare (cOf L) (sOf L)} listC)
    ∗ (oLoc d ↦[tileSet (cOf L) (sOf L)]{fullShare} mixC m d k)
    ∗ (∃ f, sV.view.loc (thr d L) ↦{fullShare} f)
    ∗ (∃ f, rV.view.loc (thr d L) ↦{fullShare} f)
    ∗ semVal (semG d L) 0 ∗ semVal (semA d L) 0 ∗ semVal (semB d L) 0
    ∗ ∃ W', ⌜∀ p ∈ W', p ∈ W ∨ p.2 = none⌝ ∗ owes (thr d L) O W')

set_option maxHeartbeats 4000000 in
/-- One trip takes the invariant to the next. -/
theorem trip (O : CellTallies nD τ sig (HIx 1)) (W : Waits sig (HIx 1)) (k : Fin (k0_t1_loop L).trips) :
    inv m d L O W k.val ⟨⟩
      ⊢ wp frame (wpE (defs₀ (F := F)) 𝒱₀ (thr d L) none) Set.univ
          (k0_t1_body L xV (Memref.isWhole_whole _) cV (Memref.isWhole_whole _) oV (Memref.isWhole_whole _)
            sV (Memref.isWhole_whole _) rV (Memref.isWhole_whole _) cc0_scratch2 cc0_scoped0 cc0_scoped1 cc0_scoped2 cc0_scoped3 k ⟨⟩)
          fun _ => inv m d L O W (k.val + 1) ⟨⟩ := by
  unfold k0_t1_body inv
  iintro ⟨#Hmw, Hx, Hc, Ho, ⟨%fs, Hs⟩, ⟨%fr, Hr⟩, HsemG, HsemA, HsemB, %W', %hW', HO⟩
  -- the list's piece, the block and the table's elements apart from the rest
  ihave Hc2 := (pointsTo_split_subset (q := tileShare (cOf L) (sOf L)) (f := (listC : Buf (Elt F) (cLoc d))) (S := Finset.univ)
    (Finset.subset_univ (listK L k).view.set)).1 $$ Hc
  icases Hc2 with ⟨Hck, Hcr⟩
  have ho2 : ∀ n, (oLoc d ↦[tileSet (cOf L) (sOf L)]{fullShare} mixC m d n : sProp 𝕄) ⊣⊢ iprop((oLoc d ↦[(outK L k).view.set]{fullShare} mixC m d n)
      ∗ oLoc d ↦[tileSet (cOf L) (sOf L) \ (outK L k).view.set]{fullShare} mixC m d n) := fun _ => pointsTo_split_subset (outK_sub L k)
  ihave Ho2 := (ho2 k.val).1 $$ Ho
  icases Ho2 with ⟨Hok, Hor⟩
  have hx2 : (xLoc d ↦{tileShare (cOf L) (sOf L)} tableC m d : sProp 𝕄) ⊣⊢ iprop((xLoc d ↦[allK.view.set]{tileShare (cOf L) (sOf L)} tableC m d)
      ∗ xLoc d ↦[Finset.univ \ allK.view.set]{tileShare (cOf L) (sOf L)} tableC m d) :=
    pointsTo_split_subset (Finset.subset_univ allK.view.set)
  ihave Hx2 := hx2.1 $$ Hx
  icases Hx2 with ⟨Hxk, Hxr⟩
  ihave Hck' := (Entails.of_eq (show ((cLoc d ↦[(listK L k).view.set]{tileShare (cOf L) (sOf L)} listC : sProp 𝕄))
    = ((listK L k).view.loc (thr d L) ↦[(listK L k).view.set]{tileShare (cOf L) (sOf L)} listC) from rfl)) $$ Hck
  ihave Hok' := (Entails.of_eq (show ((oLoc d ↦[(outK L k).view.set]{fullShare} mixC m d k.val : sProp 𝕄))
    = ((outK L k).view.loc (thr d L) ↦[(outK L k).view.set]{fullShare} mixC m d k.val) from rfl)) $$ Hok
  sl_exec (disch := exact View.amount_pos _ _ (show 0 < S128.numel by decide))
  -- the indirect stream over the fetched list: a share of the table, the row buffer, the list's buffer, its semaphore
  have hin := fetched_lt (F := F) d L k fs (trip.sl.dma0 L k) rfl
  have hrs : rV.view.set = Finset.univ := View.set_whole _
  have hss : sV.view.set = Finset.univ := View.set_whole _
  have hN : ∀ h : S262144x128.Gathers 0 S128x128, ∑ j, (rV.slice (S128x128.rowRect h.axis' j) (S128x128.stride_rowRect h.axis' j)).view.dmaCredit
      = rV.view.dmaCredit := by decide +kernel
  ihave Hr' := (Entails.of_eq (show (rV.view.loc (thr d L) ↦{fullShare} fr : sProp 𝕄)
      = rV.view.loc (thr d L) ↦[rV.view.set]{fullShare} fr by rw [hrs])) $$ Hr
  ihave Hs' := (Entails.of_eq (show (sV.view.loc (thr d L) ↦{fullShare} View.write (Elt F) sV.view fs (trip.sl.dma0 L k) Finset.univ : sProp 𝕄)
      = sV.view.loc (thr d L) ↦[sV.view.set]{fullShare} View.write (Elt F) sV.view fs (trip.sl.dma0 L k) Finset.univ by rw [hss])) $$ Hs
  iapply (SparseCore.wp_indirectGatherLocal countersEmb 𝒱₀ (thr d L) none (hg := gathers_S262144x128_S128x128) (default : HIx 1)
      rV.view.dmaCredit (hN _) (by decide) hin) $$ [Hxk Hr' Hs' HsemG]
  · isplitl [Hxk]; · iexact Hxk
    isplitl [Hr']; · iexact Hr'
    isplitl [Hs']; · iexact Hs'
    iexact HsemG
  iintro Hfl
  sl_exec
  -- its wait: the row buffer at the gathered rows, the shares and the semaphore back
  iapply (Transfers.wp_waitLocalO countersEmb 𝒱₀ (thr d L) none (default : HIx 1) (rfl : rV.view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxk, Hs'⟩, HsemG, HO⟩
  ihave Hx := hx2.2 $$ [Hxk Hxr]; · isplitl [Hxk] <;> iassumption
  ihave Hr := (Entails.of_eq (show (rV.view.loc (thr d L) ↦[rV.view.set]{fullShare} _ : sProp 𝕄)
      = rV.view.loc (thr d L) ↦{fullShare} _ by rw [hrs])) $$ Hr'
  ihave Hs := (Entails.of_eq (show (sV.view.loc (thr d L) ↦[sV.view.set]{fullShare} _ : sProp 𝕄)
      = sV.view.loc (thr d L) ↦{fullShare} _ by rw [hss])) $$ Hs'
  sl_exec (disch := exact View.amount_pos _ _ (show 0 < S128x128.numel by decide))
  sl_step
  -- the block holds the gathered rows
  have hpay : ∀ y, trip.sl.dma0_1 m d L k fs fr hin y = outC m d ((outK L k).view.emb y) := fun y =>
    (congrFun (View.read_write_univ (v := rV.view) fr _) y).trans
      (gathered m d L k _ (fun x => (congrArg BitVec.toNat (congrFun (View.read_write_univ (v := sV.view) fs (trip.sl.dma0 L k)) x)).trans
        (listK_read (F := F) L k x)) hin y)
  have hblock : ∀ j ∈ (outK L k).view.set, (outK L k).view.writes (Elt F) (mixC m d k.val) [⟨Rect.whole S128x128, trip.sl.dma0_1 m d L k fs fr hin⟩] j
      = mixC m d (k.val + 1) j :=
    landed m d L k _ fun y => (congrFun (View.read_writes_whole _ _ _) y).trans (hpay y)
  ihave Hok := (Entails.of_eq (show ((outK L k).view.loc (thr d L) ↦[(outK L k).view.set]{fullShare}
        (outK L k).view.writes (Elt F) (mixC m d k.val) [⟨Rect.whole S128x128, trip.sl.dma0_1 m d L k fs fr hin⟩] : sProp 𝕄)
      = oLoc d ↦[(outK L k).view.set]{fullShare} mixC m d (k.val + 1) from pointsTo_congr hblock)) $$ Hok'
  ihave Hor := (Entails.of_eq (show (oLoc d ↦[tileSet (cOf L) (sOf L) \ (outK L k).view.set]{fullShare} mixC m d k.val : sProp 𝕄)
      = oLoc d ↦[tileSet (cOf L) (sOf L) \ (outK L k).view.set]{fullShare} mixC m d (k.val + 1) from pointsTo_congr (mix_off m d L k))) $$ Hor
  ihave Ho := (ho2 (k.val + 1)).2 $$ [Hok Hor]
  · isplitl [Hok] <;> iassumption
  isplitr; · iexact Hmw
  isplitl [Hx]; · iexact Hx
  isplitl [Hcr]; · iexact Hcr
  isplitl [Ho]; · iexact Ho
  isplitl [Hs]; · iexists _; iexact Hs
  isplitl [Hr]; · iexists _; iexact Hr
  isplitl [HsemG]; · iexact HsemG
  isplitl [HsemA]; · iexact HsemA
  isplitl [HsemB]; · iexact HsemB
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

omit [FloatOps F] in
/-- The tile's rows as the launch left them are the contents before trip 0. -/
theorem rows_first : (oPts d (tileSet (cOf L) (sOf L)) (m (oLoc d)) : sProp 𝕄) = oPts d (tileSet (cOf L) (sOf L)) (mixC m d 0) :=
  pointsTo_congr fun j _ => (mix_first m d j).symm
omit [FloatOps F] in
/-- The contents after the last trip are the gathered rows. -/
theorem rows_last : (oPts d (tileSet (cOf L) (sOf L)) (mixC m d (k0_t1_loop L).trips) : sProp 𝕄) = oPts d (tileSet (cOf L) (sOf L)) (outC m d) :=
  pointsTo_congr (mix_last m d L)

set_option maxHeartbeats 4000000 in
/-- The task on a tile: from its read shares of the table and of the list and its output rows, the kernel ends with the
    shares back, the rows gathered, and everything it used as it found it. -/
theorem tile_body (hF : (K (F := F)).Facts) (O : CellTallies nD τ sig (HIx 1)) (W : Waits sig (HIx 1)) (hO : ∀ g, O g none = 0) :
    iprop(levAts (K (F := F)).L (K (F := F)).lev ∗ emp
        ∗ (xPts m d (tileShare (cOf L) (sOf L)) ∗ cPts d (tileShare (cOf L) (sOf L)) ∗ oPts d (tileSet (cOf L) (sOf L)) (m (oLoc d)))
        ∗ scopedBufs (thr d L) ∗ scopedSems0 (thr d L) ∗ owes (thr d L) O W)
      ⊢ wp frame (wpE (defs₀ (F := F)) 𝒱₀ (thr d L) none) Set.univ
          (cc0_k L xV (Memref.isWhole_whole _) cV (Memref.isWhole_whole _) oV (Memref.isWhole_whole _)
            sV (Memref.isWhole_whole _) rV (Memref.isWhole_whole _) cc0_scratch2 cc0_scoped0 cc0_scoped1 cc0_scoped2 cc0_scoped3)
          fun _ => iprop((xPts m d (tileShare (cOf L) (sOf L)) ∗ cPts d (tileShare (cOf L) (sOf L)) ∗ oPts d (tileSet (cOf L) (sOf L)) (outC m d))
            ∗ scopedBufs (thr d L) ∗ scopedSems0 (thr d L)
            ∗ ∃ W', ⌜∀ p ∈ W', p ∈ W ∨ p.2 = none⌝ ∗ owes (thr d L) O W') := by
  simp only [cc0_k_eq_skeleton]; unfold cc0_k_skel
  rw [(K (F := F)).scopedBufs_V hF d ((L 0).castLE hcore0) ((L 1).castLE hsub0),
    SparseCore.Cfg.scopedSems0_V (Val := Elt F) d ((L 0).castLE hcore0) ((L 1).castLE hsub0), ownSems0_thr, ownBufs_thr, rows_first]
  iintro ⟨#Hlv, -, ⟨Hx, Hc, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (thr d L) (default : HIx 1) O from
    (K (F := F)).mayWaits_none (thr := thr d L) hO) $$ Hlv
  sl_for (inv m d L O W) $$ [Hmw Hx Hc Ho Hs Hr HsemG HsemA HsemB HO]
  case region => intro k _; exact trip m d L O W k
  · unfold inv
    isplitl [Hmw]; · iexact Hmw
    isplitl [Hx]; · iexact Hx
    isplitl [Hc]; · iexact Hc
    isplitl [Ho]; · iexact Ho
    isplitl [Hs]; · iexists _; iexact Hs
    isplitl [Hr]; · iexists _; iexact Hr
    isplitl [HsemG]; · iexact HsemG
    isplitl [HsemA]; · iexact HsemA
    isplitl [HsemB]; · iexact HsemB
    iexists W; isplitr
    · ipureintro; exact fun p hp => .inl hp
    · iexact HO
  iintro %_ HI
  unfold inv
  icases HI with ⟨-, Hx, Hc, Ho, ⟨%fs, Hs⟩, ⟨%fr, Hr⟩, HsemG, HsemA, HsemB, %W', %hW', HO⟩
  sl_for (fun _ _ => iprop(emp)) $$ []
  case region => exact fun k => absurd k.isLt (Nat.not_lt.2 (Nat.le_trans (k0_t2_abs L).2.1 (Nat.zero_le _)))
  · iempintro
  iintro %_ -
  sl_step
  isplitl [Hx Hc Ho]
  · isplitl [Hx]; · iexact Hx
    isplitl [Hc]; · iexact Hc
    iapply (Entails.of_eq (rows_last (F := F) m d L)); iexact Ho
  isplitl [Hs Hr Hbufs]
  · isplitl [Hs]; · iexists _; iexact Hs
    isplitl [Hr]; · iexists _; iexact Hr
    iexact Hbufs
  isplitl [HsemG HsemA HsemB Hsems]
  · isplitl [HsemG]; · iexact HsemG
    isplitl [HsemA]; · iexact HsemA
    isplitl [HsemB]; · iexact HsemB
    iexact Hsems
  iexists _; isplitr
  · ipureintro; exact hW'
  · iexact HO

/-! ## The launch's obligation for a tile -/

/-- The coordinates of tile `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

/-- What a tile runs for the call. -/
theorem defs₀_vector (c : Fin τ.nSC) (s : Fin τ.nSub) :
    defs₀ (F := F) (.scVector c s) 0 ()
      = SparseCore.onTile hcore0 hsub0 (fun c s => cc0_k (coordsV c s)
          xV (Memref.isWhole_whole _) cV (Memref.isWhole_whole _) oV (Memref.isWhole_whole _)
          sV (Memref.isWhole_whole _) rV (Memref.isWhole_whole _) cc0_scratch2 cc0_scoped0 cc0_scoped1 cc0_scoped2 cc0_scoped3) ⟨⟩ c s := rfl

omit [FloatOps F] in
/-- The call allows waits of its own index beside the ones a task records. -/
theorem waits_widen (t : Thread nD τ) (R : sProp 𝕄) (R' : sProp 𝕄) (O : CellTallies nD τ sig (HIx 1)) (W : Waits sig (HIx 1)) (R'' : sProp 𝕄) :
    iprop(R ∗ R' ∗ R'' ∗ ∃ W', ⌜∀ p ∈ W', p ∈ W ∨ p.2 = none⌝ ∗ owes t O W')
      ⊢ iprop(R ∗ R' ∗ R'' ∗ ∃ W', ⌜∀ p ∈ W', p ∈ W ∨ p.2 = none ∨ p.2 = some (0 : Fin 1)⌝ ∗ owes t O W') := by
  iintro ⟨HA, HB, HC, %W', %hW', HO⟩
  iframe HA HB HC
  iexists W'; iframe HO
  ipureintro; exact fun p hp => (hW' p hp).elim Or.inl fun h => .inr (.inl h)

set_option maxRecDepth 16384 in
/-- Every tile runs its task from what the call hands it to what the call takes back. -/
theorem tileObl (hF : (K (F := F)).Facts) : (K (F := F)).TileObl (D (F := F)) 𝒱 (P m) v₀ 0 := by
  intro d c i O W hO _ _
  simp only [show (P m).ox = fun _ _ => 0 from rfl, add_zero]
  have hc : ((K (F := F)).core 0 c).val < grid0.bound 0 := c.isLt
  have hi : ((K (F := F)).sub 0 i).val < grid0.bound 1 := i.isLt
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hc, hi, and_self, ↓reduceDIte]
  exact (tile_body m d (coordsV ⟨_, hc⟩ ⟨_, hi⟩) hF O W hO).trans (wp_mono frame _ _ fun _ => waits_widen _ _ _ _ _ _)

end Cert.Proof.KernelIdealRun

end
-- ==== Proof.KernelIdealMain.lean ====
/-
  The kernel's run: how the call's resources are dealt to the two cores and to each core's sixteen tiles, @main on the
  TensorCore, and what every run ends with.
-/
module

public import proofs.«01_k».proof.Proof.KernelIdealTask

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Table (row row_lt start)

variable {F : FTy → Type}

local notation "𝕄" => MT nD τ sig (HIx 1) (Elt F) ℕ UU ℕ

variable (m : (ℓ : Loc nD τ sig) → Buf (Elt F) ℓ) (ρ : Dev nD → PrngReg)
variable (d : Dev nD)

/-! ## Dealing the read shares and the output rows -/

/-- The table, the list and a set of output rows, dealt to `n` takers: a read share of the table and of the list and
    one part of the rows each; what is left of the two shares stays behind. -/
theorem deal (q : PosShare TreeShare) (n : ℕ) (I : Finset S136064x128.Idx) (part : Fin n → Finset S136064x128.Idx)
    (hd : ∀ s ∈ (Finset.univ : Finset (Fin n)), ∀ t ∈ (Finset.univ : Finset (Fin n)), s ≠ t → Disjoint (part s) (part t))
    (hI : (Finset.univ : Finset (Fin n)).biUnion part = I) (f : S136064x128.Idx → Elt F .f32) :
    (iprop(xPts m d q ∗ cPts d q ∗ oPts d I f) : sProp 𝕄)
      ⊣⊢ iprop((xPts m d (Transfers.shareDrop q n) ∗ cPts d (Transfers.shareDrop q n))
        ∗ bigSep Finset.univ fun i : Fin n =>
            iprop(xPts m d (Transfers.shareTok q n i) ∗ cPts d (Transfers.shareTok q n i) ∗ oPts d (part i) f)) := by
  have hx := Transfers.pointsTo_toks (ℓ := xLoc d) (S := Finset.univ) (f := tableC m d) (Ix := HIx 1) (Val := Elt F) (Name := ℕ) (U := UU) (Lvl := ℕ) q n
  have hc := Transfers.pointsTo_toks (ℓ := cLoc d) (S := Finset.univ) (f := listC) (Ix := HIx 1) (Val := Elt F) (Name := ℕ) (U := UU) (Lvl := ℕ) q n
  have ho : (oPts d I f : sProp 𝕄) = bigSep Finset.univ fun i : Fin n => oPts d (part i) f := by
    rw [← hI]; exact pointsTo_biUnion Finset.univ (ℓ := oLoc d) part hd
  rw [bigSep_sep', bigSep_sep', ho]
  constructor
  · iintro ⟨Hx, Hc, Ho⟩
    ihave Hx' := hx.1 $$ Hx
    ihave Hc' := hc.1 $$ Hc
    icases Hx' with ⟨Hxd, Hxt⟩
    icases Hc' with ⟨Hcd, Hct⟩
    isplitl [Hxd Hcd]
    · isplitl [Hxd] <;> iassumption
    isplitl [Hxt]; · iexact Hxt
    isplitl [Hct]; · iexact Hct
    iexact Ho
  · iintro ⟨⟨Hxd, Hcd⟩, Hxt, Hct, Ho⟩
    isplitl [Hxd Hxt]
    · iapply hx.2; isplitl [Hxd] <;> iassumption
    isplitl [Hcd Hct]
    · iapply hc.2; isplitl [Hcd] <;> iassumption
    iexact Ho

variable [FloatOps F]

/-- A core's share and rows, dealt to its tiles and taken back. -/
theorem vecSplit : (K (F := F)).VecSplit' (P m) 0 := by
  intro d c
  have hin := (deal m d (coreShare (cIx c)) 16 (coreSet (cIx c)) (tileSet (cIx c)) (tiles_disjoint _) (tiles_cover _) (m (oLoc d))).1
  have hout := (deal m d (coreShare (cIx c)) 16 (coreSet (cIx c)) (tileSet (cIx c)) (tiles_disjoint _) (tiles_cover _) (outC m d)).2
  show iprop(xPts m d (coreShare (cIx c)) ∗ cPts d (coreShare (cIx c)) ∗ oPts d (coreSet (cIx c)) (m (oLoc d))) ⊢ |={Set.univ}=> iprop(
      (bigSep Finset.univ fun i : Fin 16 =>
        iprop(xPts m d (tileShare (cIx c) i) ∗ cPts d (tileShare (cIx c) i) ∗ oPts d (tileSet (cIx c) i) (m (oLoc d))))
      ∗ ((bigSep Finset.univ fun i : Fin 16 =>
          iprop(xPts m d (tileShare (cIx c) i) ∗ cPts d (tileShare (cIx c) i) ∗ oPts d (tileSet (cIx c) i) (outC m d)))
        -∗ iprop(xPts m d (coreShare (cIx c)) ∗ cPts d (coreShare (cIx c)) ∗ oPts d (coreSet (cIx c)) (outC m d))))
  iintro H
  ihave H' := hin $$ H
  icases H' with ⟨Hdrop, Htiles⟩
  imodintro
  isplitl [Htiles]; · iexact Htiles
  iintro Hback
  iapply hout
  isplitl [Hdrop]; · iexact Hdrop
  iexact Hback

/-- The call's resources on the TensorCore, dealt to the two cores. -/
theorem st_split : (iprop(xPts m d fullShare ∗ cPts d fullShare ∗ oPts d Finset.univ (m (oLoc d))) : sProp 𝕄)
    ⊢ iprop((xPts m d (Transfers.shareDrop fullShare 2) ∗ cPts d (Transfers.shareDrop fullShare 2))
        ∗ bigSep Finset.univ fun c : Fin ((K (F := F)).nCore 0) => (P m).st 0 d c) :=
  (deal m d fullShare 2 Finset.univ coreSet cores_disjoint cores_cover (m (oLoc d))).1
/-- and taken back with the rows gathered. -/
theorem dn_join : (iprop((xPts m d (Transfers.shareDrop fullShare 2) ∗ cPts d (Transfers.shareDrop fullShare 2))
        ∗ bigSep Finset.univ fun c : Fin ((K (F := F)).nCore 0) => (P m).dn 0 d c) : sProp 𝕄)
    ⊢ iprop(xPts m d fullShare ∗ cPts d fullShare ∗ oPts d Finset.univ (outC m d)) :=
  (deal m d fullShare 2 Finset.univ coreSet cores_disjoint cores_cover (outC m d)).2

/-! ## The launch's ghost state -/

/-- The handshakes' rounds, and nothing of the kernel's own. -/
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have he : (bigSep Finset.univ fun _ : Dev nD => (iprop(emp) : sProp 𝕄)) = iprop(emp) := bigSep_emp_const Finset.univ
  have hemp : (bigSep Finset.univ fun thr : Thread nD τ => bigSep Finset.univ fun q : Fin 1 => (P (F := F) m).x q thr) = (iprop(emp) : sProp 𝕄) :=
    (bigSep_congr fun _ _ => bigSep_univ_of_subsingleton (0 : Fin 1)).trans (bigSep_emp_const Finset.univ)
  rw [hemp, he]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## @main on the TensorCore -/

abbrev r_ (b : Ref sig .tc) : DevRef τ sig := Proc.devRef .tc b

/-- The arrays of @main, all of the TensorCore's unscoped buffers. -/
abbrev S8 : Finset (DevRef τ sig) := {r_ main_arg0, r_ main_c, r_ main_c_0, r_ main_c_1, r_ main_v0, r_ main_v1, r_ main_v2, r_ main_c_2}

abbrev opC : HloOp τ sig (Elt F) := StableHlo.nullary main_c (fun i => lit0 (S136064.rowMajor i))
abbrev opC0 : HloOp τ sig (Elt F) := StableHlo.nullary main_c_0 (fun i => lit1 (S128.rowMajor i))
abbrev opC1 : HloOp τ sig (Elt F) := StableHlo.nullary main_c_1 (fun i => lit2 (S128.rowMajor i))
abbrev opX : HloOp τ sig (Elt F) := StableHlo.reshape main_arg0 main_v0 (rfl : (.f32 : EltTy) = .f32) shapeCasts_S128x2048x128_S262144x128
abbrev opR : HloOp τ sig (Elt F) := StableHlo.reshape main_v1 main_v2 (rfl : (.f32 : EltTy) = .f32) shapeCasts_S136064x128_S128x1063x128
abbrev opC2 : HloOp τ sig (Elt F) := StableHlo.nullary main_c_2 (constantI S_ 32 1063#32)

/-- The launch's contents, those before the call, those after it, and the last ones. -/
def V0 : Valuation τ sig (Elt F) := fun b => m (d, b)
def V4 : Valuation τ sig (Elt F) := opX.result (opC1.result (opC0.result (opC.result (V0 m d))))
def V5 : Valuation τ sig (Elt F) := Function.update (V4 m d) (r_ main_v1) (outC m d)
def V7 : Valuation τ sig (Elt F) := opC2.result (opR.result (V5 m d))

omit [FloatOps F] in
/-- The eight arrays one by one. -/
theorem held_S8 (W : Valuation τ sig (Elt F)) :
    (StableHlo.held (SparseCore.T d) S8 W : sProp 𝕄)
      = iprop((aLoc d ↦{fullShare} W (r_ main_arg0)) ∗ (cLoc d ↦{fullShare} W (r_ main_c))
          ∗ ((SparseCore.T d).loc main_c_0 ↦{fullShare} W (r_ main_c_0)) ∗ ((SparseCore.T d).loc main_c_1 ↦{fullShare} W (r_ main_c_1))
          ∗ (xLoc d ↦{fullShare} W (r_ main_v0)) ∗ (oLoc d ↦{fullShare} W (r_ main_v1))
          ∗ (rLoc d ↦{fullShare} W (r_ main_v2)) ∗ (SparseCore.T d).loc main_c_2 ↦{fullShare} W (r_ main_c_2)) := by
  unfold StableHlo.held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
theorem unscoped_held : (unscopedBufs d (fun b => m ((SparseCore.T d).loc b)) : sProp 𝕄) = StableHlo.held (SparseCore.T d) S8 (V0 m d) := by
  rw [held_S8]
  unfold unscopedBufs
  rw [show (Finset.univ.filter fun b : Ref sig .tc => ¬ b.isScoped)
      = {main_arg0, main_c, main_c_0, main_c_1, main_v0, main_v1, main_v2, main_c_2} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

theorem V4_x : V4 m d (r_ main_v0) = tableC m d := by
  unfold V4; after_results_simp; rfl
theorem V4_c : V4 m d (r_ main_c) = listC := by
  unfold V4; after_results_simp; unfold listC; rfl
theorem V4_o : V4 m d (r_ main_v1) = m (oLoc d) := by
  unfold V4; after_results_simp; rfl

/-- What the results hold: the gathered rows in blocks of 1063, the literals, the length. -/
def resC : S128x1063x128.Idx → Elt F .f32 := shapeCast S128x1063x128 (outC m d) shapeCasts_S136064x128_S128x1063x128

theorem V5_o : V5 m d (r_ main_v1) = outC m d := Function.update_self _ _ _
theorem V5_ne (b : Ref sig .tc) (h : r_ b ≠ r_ main_v1) : V5 m d (r_ b) = V4 m d (r_ b) := Function.update_of_ne h _ _
theorem V7_r : V7 m d (r_ main_v2) = resC m d := by
  unfold V7; after_results_simp; rw [V5_o]; rfl
theorem V7_a : V7 m d (r_ main_arg0) = m (aLoc d) := by
  unfold V7; after_results_simp; rw [V5_ne _ _ _ (by decide)]; unfold V4; after_results_simp; rfl
theorem V7_c0 : V7 m d (r_ main_c_0) = (fun i => lit1 (S128.rowMajor i)) := by
  unfold V7; after_results_simp; rw [V5_ne _ _ _ (by decide)]; unfold V4; after_results_simp; rfl
theorem V7_c1 : V7 m d (r_ main_c_1) = (fun i => lit2 (S128.rowMajor i)) := by
  unfold V7; after_results_simp; rw [V5_ne _ _ _ (by decide)]; unfold V4; after_results_simp; rfl
theorem V7_c2 : V7 m d (r_ main_c_2) = constantI S_ 32 1063#32 := by
  unfold V7; after_results_simp

theorem hC : (opC (F := F)).bufs ⊆ S8 := show ({r_ main_c} : Finset (DevRef τ sig)) ⊆ S8 by decide
theorem hC0 : (opC0 (F := F)).bufs ⊆ S8 := show ({r_ main_c_0} : Finset (DevRef τ sig)) ⊆ S8 by decide
theorem hC1 : (opC1 (F := F)).bufs ⊆ S8 := show ({r_ main_c_1} : Finset (DevRef τ sig)) ⊆ S8 by decide
theorem hX : (opX (F := F)).bufs ⊆ S8 := show ({r_ main_arg0, r_ main_v0} : Finset (DevRef τ sig)) ⊆ S8 by decide
theorem hR : (opR (F := F)).bufs ⊆ S8 := show ({r_ main_v1, r_ main_v2} : Finset (DevRef τ sig)) ⊆ S8 by decide
theorem hC2 : (opC2 (F := F)).bufs ⊆ S8 := show ({r_ main_c_2} : Finset (DevRef τ sig)) ⊆ S8 by decide

/-- What @main leaves the claims: every array at the last contents. -/
abbrev FIN : sProp 𝕄 := StableHlo.held (SparseCore.T d) S8 (V7 m d)

/-- @main on the TensorCore: the three literals and the table, the call, the blocks and the length. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (StableHlo.wp_hlo_within 𝒱 (SparseCore.T d) none Set.univ (op := opC) (S := S8) hC (V := V0 m d)) $$ [Hb Hheld]
  · isplitl [Hb] <;> iassumption
  iintro ⟨Hb, Hheld⟩
  rw [wp_ret]; imodintro
  iapply (StableHlo.wp_hlo_within 𝒱 (SparseCore.T d) none Set.univ (op := opC0) (S := S8) hC0) $$ [Hb Hheld]
  · isplitl [Hb] <;> iassumption
  iintro ⟨Hb, Hheld⟩
  rw [wp_ret]; imodintro
  iapply (StableHlo.wp_hlo_within 𝒱 (SparseCore.T d) none Set.univ (op := opC1) (S := S8) hC1) $$ [Hb Hheld]
  · isplitl [Hb] <;> iassumption
  iintro ⟨Hb, Hheld⟩
  rw [wp_ret]; imodintro
  iapply (StableHlo.wp_hlo_within 𝒱 (SparseCore.T d) none Set.univ (op := opX) (S := S8) hX) $$ [Hb Hheld]
  · isplitl [Hb] <;> iassumption
  iintro ⟨Hb, Hheld⟩
  rw [wp_ret]; imodintro
  -- the call: the table, the list and the output go out and come back
  ihave Hh := (Entails.of_eq (show (StableHlo.held (SparseCore.T d) S8 (opX.result (opC1.result (opC0.result (opC.result (V0 m d))))) : sProp 𝕄) = _ from
    held_S8 (F := F) d (V4 m d))) $$ Hheld
  icases Hh with ⟨Ha, Hc, Hc0, Hc1, Hx, Ho, Hr, Hc2⟩
  ihave Hsplit := (st_split m d) $$ [Hx Hc Ho]
  · rw [V4_x, V4_c, V4_o]
    isplitl [Hx]; · iexact Hx
    isplitl [Hc]; · iexact Hc
    iexact Ho
  icases Hsplit with ⟨Hdrop, Hstart⟩
  iapply ((K (F := F)).wp_run (D (F := F)) 𝒱 (EH := EH) (P := P m) κ d 0) $$ [Hst Hstart Hdrop Hb Ha Hc0 Hc1 Hr Hc2 Hts]
  isplitr; · iexact Hctx
  isplitl [Hst]; · iexact Hst
  isplitl [Hstart]; · iexact Hstart
  iintro ⟨Hst, Hdn⟩
  ihave Hjoin := (dn_join m d) $$ [Hdrop Hdn]
  · isplitl [Hdrop] <;> iassumption
  icases Hjoin with ⟨Hx, Hc, Ho⟩
  ihave Hheld := (Entails.of_eq (held_S8 (F := F) d (V5 m d)).symm) $$ [Ha Hc Hc0 Hc1 Hx Ho Hr Hc2]
  · rw [V5_o, V5_ne _ _ main_arg0 (by decide), V5_ne _ _ main_c (by decide), V5_ne _ _ main_c_0 (by decide), V5_ne _ _ main_c_1 (by decide),
      V5_ne _ _ main_v0 (by decide), V5_ne _ _ main_v2 (by decide), V5_ne _ _ main_c_2 (by decide), V4_x, V4_c]
    isplitl [Ha]; · iexact Ha
    isplitl [Hc]; · iexact Hc
    isplitl [Hc0]; · iexact Hc0
    isplitl [Hc1]; · iexact Hc1
    isplitl [Hx]; · iexact Hx
    isplitl [Ho]; · iexact Ho
    isplitl [Hr]; · iexact Hr
    iexact Hc2
  iapply (StableHlo.wp_hlo_within 𝒱 (SparseCore.T d) none Set.univ (op := opR) (S := S8) hR (V := V5 m d)) $$ [Hb Hheld]
  · isplitl [Hb] <;> iassumption
  iintro ⟨Hb, Hheld⟩
  rw [wp_ret]; imodintro
  iapply (StableHlo.wp_hlo_within 𝒱 (SparseCore.T d) none Set.univ (op := opC2) (S := S8) hC2) $$ [Hb Hheld]
  · isplitl [Hb] <;> iassumption
  iintro ⟨Hb, Hheld⟩
  rw [wp_ret]; imodintro; imodintro
  isplitl [Hst]; · iexact Hst
  isplitl [Hheld]; · iexact Hheld
  isplitl [Hb] <;> iassumption

/-! ## What every run ends with -/

/-- The final contents the claims read: the argument as launched, the results. -/
def fq (s' : Phys nD τ sig (Elt F)) : Prop :=
  s'.mem.mem (aLoc d) = m (aLoc d) ∧ s'.mem.mem (rLoc d) = resC m d
    ∧ s'.mem.mem ((SparseCore.T d).loc main_c_0) = (fun i => lit1 (S128.rowMajor i))
    ∧ s'.mem.mem ((SparseCore.T d).loc main_c_1) = (fun i => lit2 (S128.rowMajor i))
    ∧ s'.mem.mem ((SparseCore.T d).loc main_c_2) = constantI S_ 32 1063#32

omit [FloatOps F] in
/-- A whole array held at some contents is what the state holds there. -/
theorem agree_whole (s' : Phys nD τ sig (Elt F)) (ℓ : Loc nD τ sig) (f : Buf (Elt F) ℓ) :
    iprop(SI s' ∗ ℓ ↦{fullShare} f) ⊢ (iprop(⌜s'.mem.mem ℓ = f⌝ ∗ SI s' ∗ ℓ ↦{fullShare} f) : sProp 𝕄) := by
  iintro H
  ihave H' := (persistent_entails_right (SI_pointsTo_agree (st := s') (ℓ := ℓ) (I := Finset.univ) (q := fullShare) (f := f))) $$ H
  icases H' with ⟨%h, H⟩
  isplitr
  · ipureintro; exact funext fun i => h i (Finset.mem_univ i)
  · iexact H

theorem hfin (s' : Phys nD τ sig (Elt F)) : iprop(FIN m d ∗ SI s') ⊢ (⌜fq m d s'⌝ : sProp 𝕄) := by
  unfold FIN
  rw [held_S8, V7_a, V7_r, V7_c0, V7_c1, V7_c2]
  iintro ⟨⟨Ha, -, Hc0, Hc1, -, -, Hr, Hc2⟩, HSI⟩
  ihave H := (agree_whole s' _ _) $$ [HSI Ha]
  · isplitl [HSI] <;> iassumption
  icases H with ⟨%ha, HSI, -⟩
  ihave H := (agree_whole s' _ _) $$ [HSI Hr]
  · isplitl [HSI] <;> iassumption
  icases H with ⟨%hr, HSI, -⟩
  ihave H := (agree_whole s' _ _) $$ [HSI Hc0]
  · isplitl [HSI] <;> iassumption
  icases H with ⟨%h0, HSI, -⟩
  ihave H := (agree_whole s' _ _) $$ [HSI Hc1]
  · isplitl [HSI] <;> iassumption
  icases H with ⟨%h1, HSI, -⟩
  ihave H := (agree_whole s' _ _) $$ [HSI Hc2]
  · isplitl [HSI] <;> iassumption
  icases H with ⟨%h2, HSI, -⟩
  ipureintro; exact ⟨ha, hr, h0, h1, h2⟩

/-- Every run ends, on every device, with those contents, and with every semaphore at zero. -/
def QC : PUnit × MemSt nD τ sig (Elt F) → Prop := fun r =>
  (∀ c : Dev nD, r.2.mem (aLoc c) = m (aLoc c) ∧ r.2.mem (rLoc c) = resC m c
    ∧ r.2.mem ((SparseCore.T c).loc main_c_0) = (fun i => lit1 (S128.rowMajor i))
    ∧ r.2.mem ((SparseCore.T c).loc main_c_1) = (fun i => lit2 (S128.rowMajor i))
    ∧ r.2.mem ((SparseCore.T c).loc main_c_2) = constantI S_ 32 1063#32) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m scFacts)
    (fun q _ => match q with | 0 => SparseCore.Cfg.VecSplit.of_plain (vecSplit m))
    m ρ main (fun _ => iprop(emp)) (FIN m) (u₀ (F := F)) (sep_elim_left.trans (hu₀ m)) (hmain m ρ) (fq m) (fun d s' => hfin m d s') (QC m) (fun _ h hz => ⟨h, hz⟩)

end Cert.Proof.KernelIdealRun

end
-- ==== Proof.Windows.lean ====
/-
  What the two programs' results are, index by index. Result element `(n, t, b)` is the argument at batch element `n`, row
  `start n + t`, column `b` (`windows`). The kernel's result is `windows` because its output's row `1063 * n + t` is the table's
  row `2048 * n + start n + t` (`kernel_windows`). The reference gathers a wider run of rows at computed index pairs and keeps a
  part of it: `part_apply` reads such a part where the index pairs are known, and `reference_run` applies it to the program's two.
-/
module

public import proofs.«01_k».proof.Proof.KernelIdealMain
public import proofs.«01_k».proof.Proof.Gen.ReferenceIdeal.Run
public import Idealize.ShloMosaic.Lib.ValueIdxCore
public import Idealize.ShloMosaic.Lib.Pipeline.Value
public import Idealize.ShloMosaic.Lib.WordCmp

@[expose] public section

noncomputable section

namespace Cert.Proof.Windows

open Idealize.ShloMosaic Idealize.ShloMosaic.TcCoe Idealize.ShloMosaic.ValueIdx Idealize.SL.Sem Cert.Proof.Table

variable {α : Type}

/-- A window's rows are rows of its batch element. -/
theorem start_add_lt (n : Fin 128) {t : ℕ} (ht : t < 1063) : start n.val + t < 2048 := by
  have := start_bounds n; omega

/-- The windows of `x`: element `(n, t, b)` is row `start n + t` of batch element `n`, column `b`. -/
def windows (x : (⟨3, ![128, 2048, 128]⟩ : Shape).Idx → α) : (⟨3, ![128, 1063, 128]⟩ : Shape).Idx → α := fun y =>
  x (ix3 (y 0) ⟨start (y 0).val + (y 1).val, start_add_lt (y 0) (y 1).isLt⟩ (y 2))

/-! ## The kernel -/

/-- The kernel's result is the windows of its argument. -/
theorem kernel_windows {F : FTy → Type} [FloatOps F]
    (m : (ℓ : Loc Cert.KernelIdeal.nD Cert.KernelIdeal.τ Cert.KernelIdeal.sig) → Buf (Elt F) ℓ) (d : Dev Cert.KernelIdeal.nD) :
    Cert.Proof.KernelIdealRun.resC m d = windows (m (Cert.Proof.KernelIdealRun.aLoc d)) := by
  funext y
  obtain ⟨n, t, b, rfl⟩ : ∃ (n : Fin 128) (t : Fin 1063) (b : Fin 128), y = ix3 n t b := ⟨y 0, y 1, y 2, eq_ix3 y⟩
  have hn := n.isLt
  have ht := t.isLt
  refine (shapeCast_apply _ _ _ (ix2 ⟨n.val * 1063 + t.val, by omega⟩ b) ?_).trans (shapeCast_apply _ _ _ _ ?_)
  · rw [Shape.rowMajor_val_two, Shape.rowMajor_val_three]; rfl
  · refine (Shape.rowMajor_val_three (d := ![128, 2048, 128]) _).trans
      (Eq.trans ?_ (Shape.rowMajor_val_two (d := ![262144, 128]) _).symm)
    show (n.val * 2048 + (start n.val + t.val)) * 128 + b.val = row (n.val * 1063 + t.val) * 128 + b.val
    have hq : (n.val * 1063 + t.val) / 1063 = n.val := by omega
    have hr : (n.val * 1063 + t.val) % 1063 = t.val := by omega
    simp only [row, hq, hr]; omega

/-! ## The reference's gather -/

/-- The gather's dimension numbers: the first two axes of the operand are taken at the index pair, the third is kept whole. -/
abbrev pairDims (C : ℕ) (wf : GatherDims.WF ⟨3, ![128, 2048, 128]⟩ ⟨3, ![128, C, 2]⟩ ⟨3, ![128, C, 128]⟩ [2] [0, 1] [] [0, 1] [] 2
    ![1, 1, 128]) : GatherDims ⟨3, ![128, 2048, 128]⟩ ⟨3, ![128, C, 2]⟩ ⟨3, ![128, C, 128]⟩ where
  offsetDims := [2]
  collapsedSliceDims := [0, 1]
  operandBatchingDims := []
  startIndicesBatchingDims := []
  startIndexMap := [0, 1]
  indexVectorDim := 2
  sliceSizes := ![1, 1, 128]
  wf := wf

/-- On an axis taken at the index pair (the first or the second), the gather reads the pair's component, when that is an index
    of the axis. -/
theorem start_apply {C : ℕ} (wf) (idx : IVec ⟨3, ![128, C, 2]⟩ 32) (n : Fin 128) (w : Fin C) (b : Fin 128) (a : Fin 3) (k : Fin 2)
    (hk : k.val = a.val) (v : ℕ) (hv : v < (![128, 2048, 128] : Fin 3 → ℕ) a) (h : idx (ix3 n w k) = BitVec.ofNat 32 v) :
    (pairDims C wf).start (ix3 n w b) idx a = v := by
  have hm : a ∈ ([0, 1] : List (Fin 3)) := (show ∀ (a : Fin 3) (k : Fin 2), k.val = a.val → a ∈ ([0, 1] : List (Fin 3)) by decide) a k hk
  have hk' : List.idxOf a ([0, 1] : List (Fin 3)) = k.val :=
    (show ∀ (a : Fin 3) (k : Fin 2), k.val = a.val → List.idxOf a ([0, 1] : List (Fin 3)) = k.val by decide) a k hk
  have hone : (![1, 1, 128] : Fin 3 → ℕ) a = 1 :=
    (show ∀ (a : Fin 3) (k : Fin 2), k.val = a.val → (![1, 1, 128] : Fin 3 → ℕ) a = 1 by decide) a k hk
  have hle : v < 2048 := lt_of_lt_of_le hv ((show ∀ a : Fin 3, (![128, 2048, 128] : Fin 3 → ℕ) a ≤ 2048 by decide) a)
  unfold GatherDims.start
  rw [dif_pos hm]
  have hsi : (pairDims C wf).siIdx (ix3 n w b) ⟨List.idxOf a (pairDims C wf).startIndexMap, List.idxOf_lt_length_iff.2 hm⟩
      = ix3 n w k := by
    funext c; refine Fin.ext ?_
    match c with
    | ⟨0, _⟩ => rfl
    | ⟨1, _⟩ => rfl
    | ⟨2, _⟩ => exact hk'
  refine (congrArg (fun i => min (idx i).toInt.toNat _) hsi).trans ?_
  rw [h, WordCmp.toInt_ofNat_of_lt (by omega)]
  show min v ((![128, 2048, 128] : Fin 3 → ℕ) a - (![1, 1, 128] : Fin 3 → ℕ) a) = v
  omega

/-- The gather read at `(n, w, b)`, where the index pair there names batch element `n` and row `r` of the operand. -/
theorem gather_apply {C : ℕ} (wf) (x : (⟨3, ![128, 2048, 128]⟩ : Shape).Idx → α) (idx : IVec ⟨3, ![128, C, 2]⟩ 32)
    (n : Fin 128) (w : Fin C) (b : Fin 128) (r : Fin 2048)
    (h0 : idx (ix3 n w (0 : Fin 2)) = BitVec.ofNat 32 n.val) (h1 : idx (ix3 n w (1 : Fin 2)) = BitVec.ofNat 32 r.val) :
    Host.gather (pairDims C wf) x idx (ix3 n w b) = x (ix3 n r b) := by
  have hn := n.isLt
  have hr := r.isLt
  unfold Host.gather
  congr 1
  funext a
  refine Fin.ext ?_
  show (pairDims C wf).start (ix3 n w b) idx a + (pairDims C wf).batchCoord (ix3 n w b) a
    + (pairDims C wf).offCoord (ix3 n w b) a = _
  rw [GatherDims.batchCoord_eq_zero _ _ _ List.not_mem_nil]
  obtain rfl | rfl | rfl : a = (0 : Fin 3) ∨ a = (1 : Fin 3) ∨ a = (2 : Fin 3) := by
    revert a; show ∀ a : Fin 3, _; decide
  · rw [GatherDims.offCoord_eq_zero _ _ _ (fun h => ((GatherDims.mem_sKept _ _).mp h).1
        (show (0 : Fin 3) ∈ ([0, 1] : List (Fin 3)) by decide)), start_apply wf idx n w b 0 0 rfl n.val (by simpa using hn) h0]
    rfl
  · rw [GatherDims.offCoord_eq_zero _ _ _ (fun h => ((GatherDims.mem_sKept _ _).mp h).1
        (show (1 : Fin 3) ∈ ([0, 1] : List (Fin 3)) by decide)), start_apply wf idx n w b 1 1 rfl r.val (by simpa using hr) h1]
    rfl
  · unfold GatherDims.start
    rw [dif_neg (show (2 : Fin 3) ∉ ([0, 1] : List (Fin 3)) by decide)]
    unfold GatherDims.offCoord
    rw [dif_pos ((GatherDims.mem_sKept _ _).mpr ⟨show (2 : Fin 3) ∉ ([0, 1] : List (Fin 3)) by decide, List.not_mem_nil⟩)]
    show 0 + 0 + b.val = b.val
    omega

/-- A part of the gather, from row `off` on, where the index pairs are two columns side by side. -/
theorem part_apply {C off : ℕ} (wf) (x : (⟨3, ![128, 2048, 128]⟩ : Shape).Idx → α) (p q : IVec ⟨3, ![128, C, 1]⟩ 32) (hc) (hs)
    (n : Fin 128) (t : Fin 1063) (b : Fin 128) (r : Fin 2048) (hw : off + t.val < C)
    (hp : p (ix3 n ⟨off + t.val, hw⟩ (0 : Fin 1)) = BitVec.ofNat 32 n.val)
    (hq : q (ix3 n ⟨off + t.val, hw⟩ (0 : Fin 1)) = BitVec.ofNat 32 r.val) :
    extractStridedSlice ⟨3, ![128, 1063, 128]⟩ ![0, off, 0] (Host.gather (pairDims C wf) x
      (concatenate ⟨3, ![128, C, 2]⟩ 2 [⟨⟨3, ![128, C, 1]⟩, p⟩, ⟨⟨3, ![128, C, 1]⟩, q⟩] hc)) hs (ix3 n t b) = x (ix3 n r b) := by
  refine (extractStridedSlice_apply _ _ hs _ (ix3 n ⟨off + t.val, hw⟩ b) fun a => ?_).trans (gather_apply wf x _ n _ b r ?_ ?_)
  · match a with
    | ⟨0, _⟩ => exact (Nat.zero_add _).symm
    | ⟨1, _⟩ => rfl
    | ⟨2, _⟩ => exact (Nat.zero_add _).symm
  · refine (concatenate_pair_apply_left _ p q hc _ rfl (ix3 n ⟨off + t.val, hw⟩ (0 : Fin 1)) fun a => ?_).trans hp
    match a with
    | ⟨0, _⟩ => rfl
    | ⟨1, _⟩ => rfl
    | ⟨2, _⟩ => rfl
  · refine (concatenate_pair_apply_right _ p q hc _ rfl rfl (ix3 n ⟨off + t.val, hw⟩ (0 : Fin 1)) (fun a ha => ?_) rfl).trans hq
    match a with
    | ⟨0, _⟩ => rfl
    | ⟨1, _⟩ => rfl
    | ⟨2, _⟩ => exact absurd rfl ha

/-- A small index is not negative, so the choice between it and the wrapped one takes it as it is. -/
theorem pick {z : BitVec 32} {v : ℕ} (hz : z = BitVec.ofNat 32 v) (hv : v < 2 ^ 31) (w : BitVec 32) :
    Scalar.select (IntOp.cmpi .slt z 0#32) w z = BitVec.ofNat 32 v := by
  subst hz
  unfold Scalar.select
  rw [if_neg]
  rw [show (0#32 : BitVec 32) = BitVec.ofNat 32 0 from rfl, WordCmp.cmpi_slt_ofNat (by omega) (by omega)]
  simp

/-! ## The reference -/

open Cert.ReferenceIdeal Cert.ReferenceIdeal.Gen

/-- The reference's table of numbers plus 140 is each window's start less 95. -/
theorem lit_140 : ∀ n : Fin 128, lit0 n + 140#32 = BitVec.ofNat 32 (start n.val - 95) := by decide +kernel
/-- The reference's table of numbers plus 235 is each window's start. -/
theorem lit_235 : ∀ n : Fin 128, lit0 n + 235#32 = BitVec.ofNat 32 (start n.val) := by decide +kernel

/-- An index of one axis is at its own coordinate's place. -/
theorem rowMajor_one (i : S128.Idx) : S128.rowMajor i = (i 0 : Fin 128) := Fin.ext (Shape.rowMajor_val_one i)

/-- The two sums above at an index of the table's array. -/
theorem lit_140_at (i : S128.Idx) : lit0 (S128.rowMajor i) + 140#32 = BitVec.ofNat 32 (start (i 0).val - 95) :=
  (congrArg (fun n => lit0 n + 140#32) (rowMajor_one i)).trans (lit_140 _)
theorem lit_235_at (i : S128.Idx) : lit0 (S128.rowMajor i) + 235#32 = BitVec.ofNat 32 (start (i 0).val) :=
  (congrArg (fun n => lit0 n + 235#32) (rowMajor_one i)).trans (lit_235 _)

/-- Every run of the reference ends with the windows of its argument at both of its array results, the window starts less 95 and
    the window starts at the next two, the window length at the last, and its argument unchanged. -/
theorem reference_run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50) = windows (m ((c.tc : Thread nD τ).loc main_arg0))
      ∧ r.2.mem ((c.tc : Thread nD τ).loc main_v53) = (fun i : S128.Idx => BitVec.ofNat 32 (start (i 0).val - 95))
      ∧ r.2.mem ((c.tc : Thread nD τ).loc main_v51) = windows (m ((c.tc : Thread nD τ).loc main_arg0))
      ∧ r.2.mem ((c.tc : Thread nD τ).loc main_v55) = (fun i : S128.Idx => BitVec.ofNat 32 (start (i 0).val))
      ∧ r.2.mem ((c.tc : Thread nD τ).loc main_c_12) = constantI S_ 32 1063#32
      ∧ r.2.mem ((c.tc : Thread nD τ).loc main_arg0) = m ((c.tc : Thread nD τ).loc main_arg0) := by
  refine (θ_run defs _ _).mono (fun _ h c => ?_) (Cert.ReferenceIdeal.Value.run m ρ)
  obtain ⟨h50, h53, h51, h55, h12, h0⟩ := h c
  refine ⟨h50.trans (funext fun y => ?_), h53.trans (funext fun i => ?_), h51.trans (funext fun y => ?_),
    h55.trans (funext fun i => ?_), h12, h0⟩
  · obtain ⟨n, t, b, rfl⟩ : ∃ (n : Fin 128) (t : Fin 1063) (b : Fin 128), y = ix3 n t b := ⟨y 0, y 1, y 2, eq_ix3 y⟩
    have hn := n.isLt
    have ht := t.isLt
    have hs := start_bounds n
    refine part_apply (C := 1158) (off := 95) _ _ _ _ _ _ n t b ⟨start n.val + t.val, start_add_lt n ht⟩ (by omega) ?_ ?_
    · exact pick (v := n.val) rfl (by omega) _
    · refine pick (v := start n.val + t.val) ?_ (by omega) _
      refine (congrArg (· + BitVec.ofNat 32 (95 + t.val)) (lit_140_at _)).trans ?_
      refine (BitVec.ofNat_add_ofNat _ _).trans (congrArg (BitVec.ofNat 32) ?_)
      show start n.val - 95 + (95 + t.val) = start n.val + t.val
      omega
  · exact lit_140_at i
  · obtain ⟨n, t, b, rfl⟩ : ∃ (n : Fin 128) (t : Fin 1063) (b : Fin 128), y = ix3 n t b := ⟨y 0, y 1, y 2, eq_ix3 y⟩
    have hn := n.isLt
    have ht := t.isLt
    have hs := start_bounds n
    refine part_apply (C := 1135) (off := 0) _ _ _ _ _ _ n t b ⟨start n.val + t.val, start_add_lt n ht⟩ (by omega) ?_ ?_
    · exact pick (v := n.val) rfl (by omega) _
    · refine pick (v := start n.val + t.val) ?_ (by omega) _
      refine (congrArg (· + BitVec.ofNat 32 (0 + t.val)) (lit_235_at _)).trans ?_
      refine (BitVec.ofNat_add_ofNat _ _).trans (congrArg (BitVec.ofNat 32) ?_)
      show start n.val + (0 + t.val) = start n.val + t.val
      omega
  · exact lit_235_at i

end Cert.Proof.Windows

end
-- ==== Proof.lean ====
/-
  The proof of `Cert.Claim`. The kernel copies rows of its argument into its result, each row named by a table of row numbers that
  the program carries (Proof/Table.lean); the reference gathers the same rows by index arithmetic. The kernel's runs are
  Proof/KernelMain.lean's, and its idealization's Proof/KernelIdealMain.lean's; that the results are equal is
  Proof/Windows.lean's.
-/
module

public import proofs.«01_k».proof.Defs
public import proofs.«01_k».proof.Proof.KernelMain
public import proofs.«01_k».proof.Proof.KernelIdealMain
public import proofs.«01_k».proof.Proof.Windows
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- Every run of the kernel ends with its argument unchanged and every counter at zero. -/
theorem frame_kernel : Cert.quiescent_Kernel := fun m ρ _ =>
  (θ_run Cert.Kernel.defs _ _).mono (fun _ h => ⟨fun c => (h.1 c).1, h.2⟩) (KernelRun.run_main (F := Bits) m ρ)

/-- Every run of the idealized kernel ends with its argument unchanged and every counter at zero. -/
theorem frame_kernelIdeal : Cert.quiescent_KernelIdeal := fun m ρ _ =>
  (θ_run Cert.KernelIdeal.defs _ _).mono (fun _ h => ⟨fun c => (h.1 c).1, h.2⟩) (KernelIdealRun.run_main (F := Ideal) m ρ)

/-- Every run of the reference ends with its argument unchanged; it declares no counter. -/
theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Windows.reference_run (F := Ideal) m ρ)

/-- The idealized kernel and the reference, from the same argument, end with equal results: the windows of the argument twice, the
    window starts less 95, the window starts, and the window length. -/
theorem algebraic : Cert.algebraic_KernelIdeal_ReferenceIdeal := by
  intro m g m' g' _ hagree
  refine ⟨fun c => Windows.windows (m (KernelIdealRun.aLoc c)), fun _ i => BitVec.ofNat 32 (Table.start (i 0).val - 95),
    fun c => Windows.windows (m (KernelIdealRun.aLoc c)), fun _ i => BitVec.ofNat 32 (Table.start (i 0).val),
    fun _ => constantI Cert.KernelIdeal.S_ 32 1063#32, ?_, ?_⟩
  · refine (θ_run Cert.KernelIdeal.defs _ _).mono (fun _ h c => ?_) (KernelIdealRun.run_main (F := Ideal) m g)
    obtain ⟨ha, hr, h0, h1, h2⟩ := h.1 c
    have hw := hr.trans (Windows.kernel_windows m c)
    exact ⟨hw, h0.trans (funext fun i => (Cert.KernelIdeal.Table.lit1_eq _).trans
        (congrArg (fun n => BitVec.ofNat 32 (Table.start n - 95)) (Shape.rowMajor_val_one i))), hw,
      h1.trans (funext fun i => (Cert.KernelIdeal.Table.lit2_eq _).trans
        (congrArg (fun n => BitVec.ofNat 32 (Table.start n)) (Shape.rowMajor_val_one i))), h2, ha⟩
  · refine (θ_run Cert.ReferenceIdeal.defs _ _).mono (fun _ h c => ?_) (Windows.reference_run (F := Ideal) m' g')
    obtain ⟨h50, h53, h51, h55, h12, h0⟩ := h c
    exact ⟨h50.trans (congrArg Windows.windows (hagree c)), h53, h51.trans (congrArg Windows.windows (hagree c)), h55, h12, h0⟩

/-- All five claims. -/
theorem claim : Cert.Claim :=
  ⟨Cert.Kernel.Gen.facts, Cert.KernelIdeal.Gen.facts, Cert.ReferenceIdeal.Gen.facts, frame_kernel, frame_kernelIdeal,
    frame_reference, trivial, algebraic⟩

end Cert.Proof

end
